-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![2, 128, 2, 64]⟩ ⟨4, ![2, 512, 2, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 128, 2, 64]⟩ ⟨4, ![2, 512, 2, 64]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x2x64 : Shape := ⟨4, ![2, 128, 2, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x2x64 : S_.BroadcastsInDim S2x128x2x64 (![] : Fin 0 → Fin S2x128x2x64.rank)

variable [Facts]

def fn {F : FTy → Type} [FloatOps F] (main_arg0 : FVec F S2x128x512 .bf16) (main_arg1 : FVec F S512x512 .bf16) (main_arg2 : FVec F S512x512 .bf16) (main_arg3 : FVec F S2x128x2x64 .bf16) (main_arg4 : FVec F S2x128x2x64 .bf16) : IVec S2x128x512 1 × IVec S2x128x512 1 × IVec S512x512 1 × IVec S512x512 1 × IVec S2x128x2x64 1 × IVec S2x128x2x64 1 :=
  let main_cst : FVec F S_ .bf16 := constant S_ .bf16 0xFF80#16
  let main_v0 : FVec F S2x128x512 .bf16 := broadcastInDim S2x128x512 ![] bcast_S_S2x128x512 main_cst
  let main_v1 : IVec S2x128x512 1 := cmpf .ogt main_arg0 main_v0
  let main_cst_0 : FVec F S_ .bf16 := constant S_ .bf16 0x7F80#16
  let main_v2 : FVec F S2x128x512 .bf16 := broadcastInDim S2x128x512 ![] bcast_S_S2x128x512 main_cst_0
  let main_v3 : IVec S2x128x512 1 := cmpf .olt main_arg0 main_v2
  let main_cst_1 : FVec F S_ .bf16 := constant S_ .bf16 0xFF80#16
  let main_v4 : FVec F S512x512 .bf16 := broadcastInDim S512x512 ![] bcast_S_S512x512 main_cst_1
  let main_v5 : IVec S512x512 1 := cmpf .ogt main_arg1 main_v4
  let main_cst_2 : FVec F S_ .bf16 := constant S_ .bf16 0x7F80#16
  let main_v6 : FVec F S512x512 .bf16 := broadcastInDim S512x512 ![] bcast_S_S512x512 main_cst_2
  let main_v7 : IVec S512x512 1 := cmpf .olt main_arg1 main_v6
  let main_cst_3 : FVec F S_ .bf16 := constant S_ .bf16 0xFF80#16
  let main_v8 : FVec F S2x128x2x64 .bf16 := broadcastInDim S2x128x2x64 ![] bcast_S_S2x128x2x64 main_cst_3
  let main_v9 : IVec S2x128x2x64 1 := cmpf .ogt main_arg3 main_v8
  let main_cst_4 : FVec F S_ .bf16 := constant S_ .bf16 0x7F80#16
  let main_v10 : FVec F S2x128x2x64 .bf16 := broadcastInDim S2x128x2x64 ![] bcast_S_S2x128x2x64 main_cst_4
  let main_v11 : IVec S2x128x2x64 1 := cmpf .olt main_arg3 main_v10
  (main_v1, main_v3, main_v5, main_v7, main_v9, main_v11)
-- ==== Pre_finite_scores_ReferenceIdeal.lean ====
abbrev S2x128x512 : Shape := ⟨3, ![2, 128, 512]⟩
abbrev S512x512 : Shape := ⟨2, ![512, 512]⟩
abbrev S2x512x2x64 : Shape := ⟨4, ![2, 512, 2, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x512x2x64 : S_.BroadcastsInDim S2x512x2x64 (![] : Fin 0 → Fin S2x512x2x64.rank)

variable [Facts]

def fn {F : FTy → Type} [FloatOps F] (main_arg0 : FVec F S2x128x512 .bf16) (main_arg1 : FVec F S512x512 .bf16) (main_arg2 : FVec F S512x512 .bf16) (main_arg3 : FVec F S2x512x2x64 .bf16) (main_arg4 : FVec F S2x512x2x64 .bf16) : IVec S2x128x512 1 × IVec S2x128x512 1 × IVec S512x512 1 × IVec S512x512 1 × IVec S2x512x2x64 1 × IVec S2x512x2x64 1 :=
  let main_cst : FVec F S_ .bf16 := constant S_ .bf16 0xFF80#16
  let main_v0 : FVec F S2x128x512 .bf16 := broadcastInDim S2x128x512 ![] bcast_S_S2x128x512 main_cst
  let main_v1 : IVec S2x128x512 1 := cmpf .ogt main_arg0 main_v0
  let main_cst_0 : FVec F S_ .bf16 := constant S_ .bf16 0x7F80#16
  let main_v2 : FVec F S2x128x512 .bf16 := broadcastInDim S2x128x512 ![] bcast_S_S2x128x512 main_cst_0
  let main_v3 : IVec S2x128x512 1 := cmpf .olt main_arg0 main_v2
  let main_cst_1 : FVec F S_ .bf16 := constant S_ .bf16 0xFF80#16
  let main_v4 : FVec F S512x512 .bf16 := broadcastInDim S512x512 ![] bcast_S_S512x512 main_cst_1
  let main_v5 : IVec S512x512 1 := cmpf .ogt main_arg1 main_v4
  let main_cst_2 : FVec F S_ .bf16 := constant S_ .bf16 0x7F80#16
  let main_v6 : FVec F S512x512 .bf16 := broadcastInDim S512x512 ![] bcast_S_S512x512 main_cst_2
  let main_v7 : IVec S512x512 1 := cmpf .olt main_arg1 main_v6
  let main_cst_3 : FVec F S_ .bf16 := constant S_ .bf16 0xFF80#16
  let main_v8 : FVec F S2x512x2x64 .bf16 := broadcastInDim S2x512x2x64 ![] bcast_S_S2x512x2x64 main_cst_3
  let main_v9 : IVec S2x512x2x64 1 := cmpf .ogt main_arg3 main_v8
  let main_cst_4 : FVec F S_ .bf16 := constant S_ .bf16 0x7F80#16
  let main_v10 : FVec F S2x512x2x64 .bf16 := broadcastInDim S2x512x2x64 ![] bcast_S_S2x512x2x64 main_cst_4
  let main_v11 : IVec S2x512x2x64 1 := cmpf .olt main_arg3 main_v10
  (main_v1, main_v3, main_v5, main_v7, main_v9, main_v11)
-- ==== Kernel.lean ====
abbrev S2x128x512 : Shape := ⟨3, ![2, 128, 512]⟩
abbrev S512x512 : Shape := ⟨2, ![512, 512]⟩
abbrev S2x128x2x64 : Shape := ⟨4, ![2, 128, 2, 64]⟩
abbrev S4x2x2x2x128x64 : Shape := ⟨6, ![4, 2, 2, 2, 128, 64]⟩
abbrev S3 : Shape := ⟨1, ![3]⟩
abbrev S_ : Shape := ⟨0, ![]⟩
abbrev S1x128x1x64 : Shape := ⟨4, ![1, 128, 1, 64]⟩
abbrev S128x64 : Shape := ⟨2, ![128, 64]⟩
abbrev S1x1x1x1x128x64 : Shape := ⟨6, ![1, 1, 1, 1, 128, 64]⟩
abbrev S1 : Shape := ⟨1, ![1]⟩
abbrev S1x2x2x2x128x64 : Shape := ⟨6, ![1, 2, 2, 2, 128, 64]⟩
abbrev S2x2x2x128x64 : Shape := ⟨5, ![2, 2, 2, 128, 64]⟩
abbrev S256x512 : Shape := ⟨2, ![256, 512]⟩
abbrev S512x64 : Shape := ⟨2, ![512, 64]⟩
abbrev S512x128 : Shape := ⟨2, ![512, 128]⟩
abbrev S512 : Shape := ⟨1, ![512]⟩
abbrev S512x1 : Shape := ⟨2, ![512, 1]⟩
abbrev S128x512 : Shape := ⟨2, ![128, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S2x128x2x64, .bf16⟩
  | .hbm, ⟨4, _⟩ => ⟨S2x128x2x64, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x2x64, .bf16⟩
  | .local _ .vmem, ⟨4, _⟩ => ⟨S2x128x2x64, .bf16⟩
  | .local _ .vmem, ⟨5, _⟩ => ⟨S2x128x512, .f32⟩
  | .local _ .vmem, ⟨6, _⟩ => ⟨S4x2x2x2x128x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_91 : BitVec 32 := 1#32
  let v56 : BitVec 32 := Scalar.addi v2 c1_i32_91
  let c4_i32_92 : BitVec 32 := 4#32
  let v57 : BitVec 32 := Scalar.remsi v56 c4_i32_92
  let c1_i32_97 : BitVec 32 := 1#32
  let v58 : BitVec 32 := Scalar.muli v57 c1_i32_97
  let v59 : BitVec 32 := Scalar.addi c0_i32_98 v58
  v59.toNat
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_109 : BitVec 32 := 2#32
  let v68 : BitVec 32 := Scalar.addi v2 c2_i32_109
  let c4_i32_110 : BitVec 32 := 4#32
  let v69 : BitVec 32 := Scalar.remsi v68 c4_i32_110
  let c1_i32_115 : BitVec 32 := 1#32
  let v70 : BitVec 32 := Scalar.muli v69 c1_i32_115
  let v71 : BitVec 32 := Scalar.addi c0_i32_116 v70
  v71.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_127 : BitVec 32 := 3#32
  let v80 : BitVec 32 := Scalar.addi v2 c3_i32_127
  let c4_i32_128 : BitVec 32 := 4#32
  let v81 : BitVec 32 := Scalar.remsi v80 c4_i32_128
  let c1_i32_133 : BitVec 32 := 1#32
  let v82 : BitVec 32 := Scalar.muli v81 c1_i32_133
  let v83 : BitVec 32 := Scalar.addi c0_i32_134 v82
  v83.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x512x2x64 : Shape := ⟨4, ![2, 512, 2, 64]⟩
abbrev S2x128x8x64 : Shape := ⟨4, ![2, 128, 8, 64]⟩
abbrev S2x512x2x4x64 : Shape := ⟨5, ![2, 512, 2, 4, 64]⟩
abbrev S2x512x8x64 : Shape := ⟨4, ![2, 512, 8, 64]⟩
abbrev S_ : Shape := ⟨0, ![]⟩
abbrev S2x8x128x1 : Shape := ⟨4, ![2, 8, 128, 1]⟩
abbrev S2x8x128x512 : Shape := ⟨4, ![2, 8, 128, 512]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 55
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S2x512x2x64, .bf16⟩
  | .hbm, ⟨4, _⟩ => ⟨S2x512x2x64, .bf16⟩
  | .hbm, ⟨5, _⟩ => ⟨S2x128x512, .f32⟩
  | .hbm, ⟨6, _⟩ => ⟨S512x512, .f32⟩
  | .hbm, ⟨7, _⟩ => ⟨S2x128x512, .f32⟩
  | .hbm, ⟨8, _⟩ => ⟨S2x128x512, .bf16⟩
  | .hbm, ⟨9, _⟩ => ⟨S2x128x8x64, .bf16⟩
  | .hbm, ⟨10, _⟩ => ⟨S2x512x2x4x64, .bf16⟩
  | .hbm, ⟨11, _⟩ => ⟨S2x512x8x64, .bf16⟩
  | .hbm, ⟨12, _⟩ => ⟨S2x512x2x4x64, .bf16⟩
  | .hbm, ⟨13, _⟩ => ⟨S2x512x8x64, .bf16⟩
  | .hbm, ⟨14, _⟩ => ⟨S_, .f32⟩
  | .hbm, ⟨15, _⟩ => ⟨S2x128x8x64, .f32⟩
  | .hbm, ⟨16, _⟩ => ⟨S_, .f32⟩
  | .hbm, ⟨17, _⟩ => ⟨S2x8x128x1, .f32⟩
  | .hbm, ⟨18, _⟩ => ⟨S_, .f32⟩
  | .hbm, ⟨19, _⟩ => ⟨S2x8x128x1, .f32⟩
  | .hbm, ⟨20, _⟩ => ⟨S2x128x8x64, .f32⟩
  | .hbm, ⟨21, _⟩ => ⟨S2x512x8x64, .f32⟩
  | .hbm, ⟨22, _⟩ => ⟨S2x8x128x512, .f32⟩
  | .hbm, ⟨23, _⟩ => ⟨S2x8x128x512, .bf16⟩
  | .hbm, ⟨24, _⟩ => ⟨S2x8x128x512, .f32⟩
  | .hbm, ⟨25, _⟩ => ⟨S_, .f32⟩
  | .hbm, ⟨26, _⟩ => ⟨S2x8x128x512, .f32⟩
  | .hbm, ⟨27, _⟩ => ⟨S2x8x128x512, .f32⟩
  | .hbm, ⟨28, _⟩ => ⟨S_, .f32⟩
  | .hbm, ⟨29, _⟩ => ⟨S2x8x128, .f32⟩
  | .hbm, ⟨30, _⟩ => ⟨S2x8x128x1, .f32⟩
  | .hbm, ⟨31, _⟩ => ⟨S2x8x128x1, .f32⟩
  | .hbm, ⟨32, _⟩ => ⟨S2x8x128x1, .f32⟩
  | .hbm, ⟨33, _⟩ => ⟨S2x8x128x1, .f32⟩
  | .hbm, ⟨34, _⟩ => ⟨S2x8x128x512, .f32⟩
  | .hbm, ⟨35, _⟩ => ⟨S2x8x128x512, .f32⟩
  | .hbm, ⟨36, _⟩ => ⟨S2x8x128x512, .f32⟩
  | .hbm, ⟨37, _⟩ => ⟨S2x8x128x1, .f32⟩
  | .hbm, ⟨38, _⟩ => ⟨S_, .f32⟩
  | .hbm, ⟨39, _⟩ => ⟨S2x8x128, .f32⟩
  | .hbm, ⟨40, _⟩ => ⟨S2x8x128x1, .f32⟩
  | .hbm, ⟨41, _⟩ => ⟨S2x8x128x1, .f32⟩
  | .hbm, ⟨42, _⟩ => ⟨S2x128x8x1, .f32⟩
  | .hbm, ⟨43, _⟩ => ⟨S2x128x8x64, .f32⟩
  | .hbm, ⟨44, _⟩ => ⟨S2x128x8x64, .f32⟩
  | .hbm, ⟨45, _⟩ => ⟨S2x512x8x64, .f32⟩
  | .hbm, ⟨46, _⟩ => ⟨S2x8x64x128, .f32⟩
  | .hbm, ⟨47, _⟩ => ⟨S2x128x8x64, .f32⟩
  | .hbm, ⟨48, _⟩ => ⟨S2x128x8x64, .f32⟩
  | .hbm, ⟨49, _⟩ => ⟨S2x128x8x1, .f32⟩
  | .hbm, ⟨50, _⟩ => ⟨S2x128x8x64, .f32⟩
  | .hbm, ⟨51, _⟩ => ⟨S2x128x8x64, .f32⟩
  | .hbm, ⟨52, _⟩ => ⟨S2x128x512, .f32⟩
  | .hbm, ⟨53, _⟩ => ⟨S512x512, .f32⟩
  | .hbm, ⟨54, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.Protocol.lean ====
/-
# The exchange of key/value blocks between the four devices

Every device packs its own keys and values into slot 0 of a four-slot buffer and copies that slot into slot `k+1` of
the device `k+1` places after it, for `k = 0, 1, 2`. Before it copies, it signals each of the three others that its own
slot for that device's copy is free, and waits for the three signals addressed to it.

This module states the cells, the contents of a slot, the payments of every cell and what each device owes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Writes
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's and the exchange's, whose duties are named by `Fin 3` -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The other devices -/

set_option backward.proofsInPublic true in
/-- The device `k+1` places after `c`. -/
def up (k : Fin 3) (c : Dev nD) : Dev nD := ⟨(c.val + k.val + 1) % 4, Nat.mod_lt _ (by decide)⟩
set_option backward.proofsInPublic true in
/-- The device `k+1` places before `c`. -/
def dn (k : Fin 3) (c : Dev nD) : Dev nD := ⟨(c.val + 3 - k.val) % 4, Nat.mod_lt _ (by decide)⟩

/-- Down and up again is where one was. -/
theorem up_dn (k : Fin 3) (c : Dev nD) : up k (dn k c) = c := by revert k c; decide
/-- Up and down again is where one was. -/
theorem dn_up (k : Fin 3) (c : Dev nD) : dn k (up k c) = c := by revert k c; decide
/-- Three places on and one on make the whole turn, and so do two and two. -/
theorem up_rev_up (k : Fin 3) (c : Dev nD) : up k.rev (up k c) = c := by revert k c; decide

/-- Moving `k + 1` places on, as a permutation of the devices. -/
def turn (k : Fin 3) : Dev nD ≃ Dev nD := ⟨up k, dn k, dn_up k, up_dn k⟩

/-- The first signal goes to the next device. -/
theorem dev1_eq (c : Dev nD) : (⟨k0_dev1 c, k0_dev1_lt c⟩ : Dev nD) = up 0 c := by revert c; decide
/-- The second signal goes two devices on. -/
theorem dev2_eq (c : Dev nD) : (⟨k0_dev2 c, k0_dev2_lt c⟩ : Dev nD) = up 1 c := by revert c; decide
/-- The third signal goes three devices on. -/
theorem dev3_eq (c : Dev nD) : (⟨k0_dev3 c, k0_dev3_lt c⟩ : Dev nD) = up 2 c := by revert c; decide
/-- The first copy goes to the next device. -/
theorem dev4_eq (c : Dev nD) : (⟨k0_dev4 c, k0_dev4_lt c⟩ : Dev nD) = up 0 c := by revert c; decide
/-- The second copy goes two devices on. -/
theorem dev5_eq (c : Dev nD) : (⟨k0_dev5 c, k0_dev5_lt c⟩ : Dev nD) = up 1 c := by revert c; decide
/-- The third copy goes three devices on. -/
theorem dev6_eq (c : Dev nD) : (⟨k0_dev6 c, k0_dev6_lt c⟩ : Dev nD) = up 2 c := by revert c; decide

/-! ## The buffers and the cells -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev keyM : Memref sig .tc .vmem S2x128x2x64 .bf16 := Memref.whole cc0_stg3_0
abbrev valM : Memref sig .tc .vmem S2x128x2x64 .bf16 := Memref.whole cc0_stg4_0
abbrev outM : Memref sig .tc .vmem S2x128x512 .f32 := Memref.whole cc0_stg5_0
abbrev kvM : Memref sig .tc .vmem S4x2x2x2x128x64 .bf16 := Memref.whole cc0_scratch0

/-- A slot lies inside the buffer. -/
theorem slot_inb (j : Fin 4) : ∀ a, (![j.val, 0, 0, 0, 0, 0] : Fin 6 → ℕ) a + S1x2x2x2x128x64.size a ≤ S4x2x2x2x128x64.size a := by
  revert j; decide

/-- The box of slot `j` in the four-slot buffer. -/
abbrev slotR (j : Fin 4) : Rect S4x2x2x2x128x64 := Rect.unit (s := S4x2x2x2x128x64) ![j.val, 0, 0, 0, 0, 0] S1x2x2x2x128x64.size (slot_inb j)
/-- Slot `j` as the kernel's copies address it. -/
abbrev slotM (j : Fin 4) : Memref sig .tc .vmem S2x2x2x128x64 .bf16 :=
  ((kvM : Memref sig .tc .vmem S4x2x2x2x128x64 .bf16).slice (slotR j) (fun _ => rfl)).squeeze S2x2x2x128x64 squeezes_S1x2x2x2x128x64_S2x2x2x128x64

abbrev barS : Sem sig := (SemArray.scalar (sig.barrier 0 rfl) : Sems sig S_).sem
abbrev sendS (k : Fin 3) : DmaSem sig := ⟨6 + k.val, by have := k.isLt; show 6 + k.val < 12; omega⟩
abbrev recvS (k : Fin 3) : DmaSem sig := ⟨9 + k.val, by have := k.isLt; show 9 + k.val < 12; omega⟩

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The credit of one copy of a slot. -/
abbrev N : ℕ := (slotM 1).view.dmaCredit
/-- A copy's size is positive. -/
theorem N_pos : 0 < N := View.dmaCredit_pos _ (by decide)

/-! ## What a slot holds -/

/-- A device's keys and values as a slot lays them out: which of the two, the batch, the head, the row, the feature. -/
abbrev Blk (F : FTy → Type) : Type := S2x2x2x128x64.Idx → Elt F .bf16

/-- The block packed from keys `kf` and values `vf`. -/
def pack (kf vf : S2x128x2x64.Idx → Elt F .bf16) : Blk F := fun x =>
  if (x 0).val = 0 then kf (fun | ⟨0, _⟩ => x 1 | ⟨1, _⟩ => x 3 | ⟨2, _⟩ => x 2 | ⟨3, _⟩ => x 4)
  else vf (fun | ⟨0, _⟩ => x 1 | ⟨1, _⟩ => x 3 | ⟨2, _⟩ => x 2 | ⟨3, _⟩ => x 4)

/-- The contents of the four-slot buffer whose every slot holds `X`. -/
def spread (X : Blk F) : S4x2x2x2x128x64.Idx → Elt F .bf16 := fun y =>
  X (fun | ⟨0, _⟩ => y 1 | ⟨1, _⟩ => y 2 | ⟨2, _⟩ => y 3 | ⟨3, _⟩ => y 4 | ⟨4, _⟩ => y 5)

omit [FloatOps F] in
/-- A slot of the buffer that holds `X` everywhere reads `X`. -/
theorem read_slot_spread (j : Fin 4) (X : Blk F) : (slotM j).view.read (Elt F) (spread X) = X := by
  funext x
  have h1 : (slotM j).view.read (Elt F) (spread X) x = spread X ((slotR j).emb (Shape.reshapeEquiv squeezes_S1x2x2x2x128x64_S2x2x2x128x64.numel_eq x)) := rfl
  rw [h1, Shape.reshapeEquiv_cons_one]
  unfold spread
  refine congrArg X (funext fun a => Fin.ext ?_)
  match a with
  | ⟨0, _⟩ => show ((slotR j).emb _ 1).val = _; rw [Rect.emb_apply]; exact (Nat.zero_add _).trans (Nat.one_mul _)
  | ⟨1, _⟩ => show ((slotR j).emb _ 2).val = _; rw [Rect.emb_apply]; exact (Nat.zero_add _).trans (Nat.one_mul _)
  | ⟨2, _⟩ => show ((slotR j).emb _ 3).val = _; rw [Rect.emb_apply]; exact (Nat.zero_add _).trans (Nat.one_mul _)
  | ⟨3, _⟩ => show ((slotR j).emb _ 4).val = _; rw [Rect.emb_apply]; exact (Nat.zero_add _).trans (Nat.one_mul _)
  | ⟨4, _⟩ => show ((slotR j).emb _ 5).val = _; rw [Rect.emb_apply]; exact (Nat.zero_add _).trans (Nat.one_mul _)

/-- The elements of slot `j`. -/
abbrev slotSet (j : Fin 4) : Finset S4x2x2x2x128x64.Idx := (slotM j).view.set

/-- A slot's elements are its rectangle's. -/
theorem slotSet_eq (j : Fin 4) : slotSet j = (slotR j).set := by
  show (((View.whole cc0_scratch0).slice (slotR j)).reshape _ _).set = _
  rw [View.set_reshape, View.set_slice_whole]

/-- An element is in a slot when its first coordinate is the number of the slot. -/
theorem mem_slotSet (j : Fin 4) (y : S4x2x2x2x128x64.Idx) : y ∈ slotSet j ↔ (y 0).val = j.val := by
  rw [slotSet_eq, Rect.mem_set_unit]
  constructor
  · intro h
    have h0 := h 0
    have h1 : j.val ≤ (y 0).val := h0.1
    have h2 : (y 0).val < j.val + 1 := h0.2
    omega
  · intro h a
    match a with
    | ⟨0, _⟩ => exact ⟨h.ge, by show (y 0).val < j.val + 1; omega⟩
    | ⟨1, _⟩ => exact ⟨Nat.zero_le _, by rw [show (![j.val, 0, 0, 0, 0, 0] : Fin 6 → ℕ) (⟨1, by decide⟩ : Fin 6) = 0 from rfl, Nat.zero_add]; exact (y 1).isLt⟩
    | ⟨2, _⟩ => exact ⟨Nat.zero_le _, by rw [show (![j.val, 0, 0, 0, 0, 0] : Fin 6 → ℕ) (⟨2, by decide⟩ : Fin 6) = 0 from rfl, Nat.zero_add]; exact (y 2).isLt⟩
    | ⟨3, _⟩ => exact ⟨Nat.zero_le _, by rw [show (![j.val, 0, 0, 0, 0, 0] : Fin 6 → ℕ) (⟨3, by decide⟩ : Fin 6) = 0 from rfl, Nat.zero_add]; exact (y 3).isLt⟩
    | ⟨4, _⟩ => exact ⟨Nat.zero_le _, by rw [show (![j.val, 0, 0, 0, 0, 0] : Fin 6 → ℕ) (⟨4, by decide⟩ : Fin 6) = 0 from rfl, Nat.zero_add]; exact (y 4).isLt⟩
    | ⟨5, _⟩ => exact ⟨Nat.zero_le _, by rw [show (![j.val, 0, 0, 0, 0, 0] : Fin 6 → ℕ) (⟨5, by decide⟩ : Fin 6) = 0 from rfl, Nat.zero_add]; exact (y 5).isLt⟩

/-- Slot `j` of device `c`'s buffer, at share `q`, with contents `f`. -/
def slotPts (c : Dev nD) (j : Fin 4) (q : PosShare TreeShare) (f : Buf (Elt F) ((slotM j).view.loc (c : Thread nD τ))) : sProp 𝕄 :=
  (slotM j).view.loc (c : Thread nD τ) ↦[slotSet j]{q} f

omit [FloatOps F] in
instance slotPts_storable (c : Dev nD) (j q f) : BI.Storable (upEmb : UEmb _ 𝕄) (slotPts (F := F) c j q f) := by unfold slotPts; infer_instance

omit [FloatOps F] in
/-- A copy of a slot holding `X` leaves the slot it lands in holding `X`. -/
theorem slotPts_landed (c : Dev nD) (i j : Fin 4) (q : PosShare TreeShare) (fd : Buf (Elt F) ((slotM j).view.loc (c : Thread nD τ))) (X : Blk F) :
    ((slotM j).view.loc (c : Thread nD τ) ↦[slotSet j]{q} (slotM j).view.write (Elt F) fd ((slotM i).view.read (Elt F) (spread X)) Finset.univ : sProp 𝕄)
      = slotPts c j q (spread X) := by
  unfold slotPts
  refine pointsTo_congr fun y hy => ?_
  obtain ⟨x, -, rfl⟩ := Finset.mem_map.mp hy
  have h1 : (slotM j).view.read (Elt F) ((slotM j).view.write (Elt F) fd ((slotM i).view.read (Elt F) (spread X)) Finset.univ) x = X x := by
    rw [View.read_write_univ, read_slot_spread]
  have h2 : (slotM j).view.read (Elt F) (spread X) x = X x := by rw [read_slot_spread]
  exact h1.trans h2.symm

/-! ## What is exchanged -/

/-- Device `c`'s keys and values as staged, and the block it packs of them. -/
def keyAt (c : Dev nD) : S2x128x2x64.Idx → Elt F .bf16 := (win0_3.blk (0 : Fin 1)).view.read (Elt F) (m ((c : Thread nD τ).loc main_arg3))
/-- Device `c`'s values. -/
def valAt (c : Dev nD) : S2x128x2x64.Idx → Elt F .bf16 := (win0_4.blk (0 : Fin 1)).view.read (Elt F) (m ((c : Thread nD τ).loc main_arg4))
/-- Device `c`'s packed block. -/
def blkOf (c : Dev nD) : Blk F := pack (keyAt m c) (valAt m c)

/-- The share of slot 0 lent to copy `k`; the fourth part is kept for the loads made meanwhile. -/
def lent : Fin 3 → PosShare TreeShare
  | 0 => fullShare.left.left
  | 1 => fullShare.left.right
  | 2 => fullShare.right.left
/-- The share of slot 0 that the device keeps for its own loads. -/
abbrev kept : PosShare TreeShare := fullShare.right.right

/-- What the signal of device `up d c` hands device `c`: the slot that `c`'s copy `d` is to land in. -/
def barPay (c : Dev nD) (d : Fin 3) : sProp 𝕄 := iprop(∃ f, slotPts (up d c) d.succ fullShare f)
/-- What the end of its copy `k` hands a device: the share of slot 0 lent to the copy. -/
def sendPay (c : Dev nD) (k : Fin 3) : sProp 𝕄 := slotPts c 0 (lent k) (spread (blkOf m c))
/-- What the arrival of copy `k` hands a device: the slot it landed in, holding the block of the device that copied. -/
def recvPay (c : Dev nD) (k : Fin 3) : sProp 𝕄 := slotPts c k.succ fullShare (spread (blkOf m (dn k c)))

/-- A count below three, as a copy's number. -/
def nth (n : ℕ) : Fin 3 := ⟨n % 3, Nat.mod_lt _ (by decide)⟩
/-- What a payment on a copy semaphore carries. -/
def xferPay (c : Dev nD) (q : DmaSem sig) : sProp 𝕄 := if 9 ≤ q.val then recvPay m c (nth (q.val - 9)) else sendPay m c (nth (q.val - 6))

/-- One round. A barrier cell is paid one unit by each of the three other devices; a send or a receive cell the credit of
    one slot. -/
def exch : Rounds.Schedule (GSem nD τ sig) (Fin 3) 𝕄 where
  duties g r := if r = 0 ∧ g.1.2 = .tc then (match g.2 with | .reg _ => Finset.univ | .dma q => if 6 ≤ q.val then {0} else ∅) else ∅
  unitless _ := False
  amount g _ _ := match g.2 with | .reg _ => 1 | .dma _ => N
  payload g _ d := match g.2 with | .reg _ => barPay g.1.1 d | .dma q => xferPay m g.1.1 q
  amount_pos g _ _ _ := by
    rcases g with ⟨_, _ | _⟩
    · exact Nat.one_pos
    · exact N_pos

omit [FloatOps F] in
instance exch_payload_storable (g : GSem nD τ sig) (r : ℕ) (d : Fin 3) : BI.Storable (upEmb : UEmb _ 𝕄) ((exch (F := F) m).payload g r d) := by
  rcases g with ⟨t, _ | q⟩
  · show BI.Storable upEmb (barPay t.1 d)
    unfold barPay; infer_instance
  · show BI.Storable upEmb (xferPay m t.1 q)
    unfold xferPay recvPay sendPay
    split <;> infer_instance

section Cells
variable (c : Dev nD) (k : Fin 3)

/-- The number of a receive semaphore. -/
theorem nth_recv : nth ((recvS k).val - 9) = k := by revert k; decide
/-- The number of a send semaphore. -/
theorem nth_send : nth ((sendS k).val - 6) = k := by revert k; decide

omit [FloatOps F] in
/-- A barrier cell is paid by three. -/
theorem duties_bar : (exch (F := F) m).duties (barCell c) 0 = Finset.univ := by
  dsimp only [exch]; exact if_pos ⟨rfl, rfl⟩
omit [FloatOps F] in
/-- A send cell is paid by one. -/
theorem duties_send : (exch (F := F) m).duties (sendCell k c) 0 = {0} :=
  by dsimp only [exch]; rw [if_pos ⟨rfl, rfl⟩]; exact if_pos (Nat.le_add_right 6 k.val)
omit [FloatOps F] in
/-- A receive cell is paid by one. -/
theorem duties_recv : (exch (F := F) m).duties (recvCell k c) 0 = {0} :=
  by dsimp only [exch]; rw [if_pos ⟨rfl, rfl⟩]; exact if_pos (show 6 ≤ 9 + k.val by omega)
omit [FloatOps F] in
/-- There is one round only. -/
theorem duties_later (g : GSem nD τ sig) : ∀ r, 1 ≤ r → (exch (F := F) m).duties g r = ∅ := fun r hr => if_neg fun h => by omega

omit [FloatOps F] in
/-- A barrier cell waits for three units. -/
theorem expect_bar : (exch (F := F) m).expect (barCell c) 0 = 3 := by
  unfold Schedule.expect Schedule.amountOf
  rw [duties_bar]; exact (Finset.sum_const 1).trans rfl
omit [FloatOps F] in
/-- A send cell waits for one copy's size. -/
theorem expect_send : (exch (F := F) m).expect (sendCell k c) 0 = N := by
  unfold Schedule.expect Schedule.amountOf; rw [duties_send, Finset.sum_singleton]; rfl
omit [FloatOps F] in
/-- A receive cell waits for one copy's size. -/
theorem expect_recv : (exch (F := F) m).expect (recvCell k c) 0 = N := by
  unfold Schedule.expect Schedule.amountOf; rw [duties_recv, Finset.sum_singleton]; rfl

omit [FloatOps F] in
/-- What the payment of a send cell carries. -/
theorem payload_send (d : Fin 3) : (exch (F := F) m).payload (sendCell k c) 0 d = sendPay m c k := by
  show xferPay m c (sendS k) = _
  unfold xferPay
  rw [if_neg (show ¬ 9 ≤ 6 + k.val by have := k.isLt; omega), nth_send]
omit [FloatOps F] in
/-- What the payment of a receive cell carries. -/
theorem payload_recv (d : Fin 3) : (exch (F := F) m).payload (recvCell k c) 0 d = recvPay m c k := by
  show xferPay m c (recvS k) = _
  unfold xferPay
  rw [if_pos (Nat.le_add_right 9 k.val), nth_recv]

omit [FloatOps F] in
/-- All that the three signals hand a device. -/
theorem rest_bar : bigSep ((exch (F := F) m).duties (barCell c) 0 \ ∅) (fun d => (exch (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
omit [FloatOps F] in
/-- All that a send cell brings. -/
theorem rest_send : bigSep ((exch (F := F) m).duties (sendCell k c) 0 \ ∅) (fun d => (exch (F := F) m).payload (sendCell k c) 0 d) = sendPay m c k := by
  rw [Finset.sdiff_empty, duties_send, bigSep_singleton, payload_send]
omit [FloatOps F] in
/-- All that a receive cell brings. -/
theorem rest_recv : bigSep ((exch (F := F) m).duties (recvCell k c) 0 \ ∅) (fun d => (exch (F := F) m).payload (recvCell k c) 0 d) = recvPay m c k := by
  rw [Finset.sdiff_empty, duties_recv, bigSep_singleton, payload_recv]

end Cells

/-! ## What each device owes; the order of the waits -/

/-- What is owed before copy 2, before copies 1 and 2, before all three copies; -/
def X2 (c : Dev nD) : CellTallies nD τ sig Unit := tallyAt (recvCell 2 (up 2 c)) () N
/-- What is owed before the second copy. -/
def X1 (c : Dev nD) : CellTallies nD τ sig Unit := X2 c + tallyAt (recvCell 1 (up 1 c)) () N
/-- What is owed before the first copy. -/
def X0 (c : Dev nD) : CellTallies nD τ sig Unit := X1 c + tallyAt (recvCell 0 (up 0 c)) () N
/-- and before the third, the second and the first signal. -/
def B2 (c : Dev nD) : CellTallies nD τ sig Unit := X0 c + tallyAt (barCell (up 2 c)) () 1
/-- What is owed before the second signal. -/
def B1 (c : Dev nD) : CellTallies nD τ sig Unit := B2 c + tallyAt (barCell (up 1 c)) () 1
/-- All debts at the start. -/
def O₀ (c : Dev nD) : CellTallies nD τ sig Unit := B1 c + tallyAt (barCell (up 0 c)) () 1

/-- The labels of a cell. -/
def L (g : GSem nD τ sig) : Finset Unit := if g.1.2 = .tc then {()} else ∅
/-- Barrier cells are waited for before receive cells; nothing is owed to any other cell. -/
def lv (g : GSem nD τ sig) (_ : Unit) : ℕ := match g.2 with | .reg _ => 1 | .dma q => if 9 ≤ q.val then 2 else 0

/-- Other cores carry no label. -/
theorem L_of_ne (g : GSem nD τ sig) (h : g.1.2 ≠ .tc) : L g = ∅ := if_neg h
/-- Each cell of the core carries the one label. -/
theorem L_tc (c : Dev nD) (sm : SemLoc sig) : L ((c : Thread nD τ), sm) = {()} := if_pos rfl

/-- The level of a receive cell. -/
theorem lv_recv (k : Fin 3) (c : Dev nD) : lv (recvCell k c) () = 2 := if_pos (Nat.le_add_right 9 k.val)

/-- A debt counts at its own cell only. -/
theorem tally_pos {g g' : GSem nD τ sig} {u u' : Unit} {n : ℕ} (h : 0 < (tallyAt g' u' n : CellTallies nD τ sig Unit) g u) : g = g' := by
  rw [tallyAt_apply] at h
  by_contra hn
  rw [if_neg fun h' => hn h'.1] at h
  exact Nat.lt_irrefl 0 h

/-- A positive count in a sum comes from one of its terms. -/
theorem add_tally_pos {A B : CellTallies nD τ sig Unit} {g : GSem nD τ sig} {u : Unit} (h : 0 < (A + B) g u) : 0 < A g u ∨ 0 < B g u := by
  rw [Pi.add_apply, Finsupp.add_apply] at h
  omega

/-- The copies are owed to receive cells of the peers. -/
theorem X0_pos {c : Dev nD} {g : GSem nD τ sig} {u : Unit} (h : 0 < X0 c g u) : ∃ k, g = recvCell k (up k c) := by
  rcases add_tally_pos h with h | h
  · rcases add_tally_pos h with h | h
    · exact ⟨2, tally_pos h⟩
    · exact ⟨1, tally_pos h⟩
  · exact ⟨0, tally_pos h⟩

/-- The debts are owed to receive cells and barriers of the peers. -/
theorem O₀_pos {c : Dev nD} {g : GSem nD τ sig} {u : Unit} (h : 0 < O₀ c g u) : ∃ k, g = recvCell k (up k c) ∨ g = barCell (up k c) := by
  rcases add_tally_pos h with h | h
  · rcases add_tally_pos h with h | h
    · rcases add_tally_pos h with h | h
      · obtain ⟨k, hk⟩ := X0_pos h
        exact ⟨k, Or.inl hk⟩
      · exact ⟨2, Or.inr (tally_pos h)⟩
    · exact ⟨1, Or.inr (tally_pos h)⟩
  · exact ⟨0, Or.inr (tally_pos h)⟩

omit [FloatOps F] in
/-- The pipeline's own waits are on cells below all that is owed. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by rw [Finset.mem_singleton.mp hp]; exact (if_neg (by omega) : lv ((c : Thread nD τ), SemLoc.dma q) () = 0).le)
      (fun g u hg => by
        obtain ⟨k, rfl | rfl⟩ := O₀_pos hg
        · rw [lv_recv]; decide
        · exact Nat.one_pos)
  · rw [MayWait_zero]; iintro -; iempintro

omit [FloatOps F] in
/-- At its barrier wait a device owes the receive cells of the three others only. -/
theorem mayWait_bar (c : Dev nD) : (levAts L lv : sProp 𝕄) ⊢ MayWait (c : Thread nD τ) (.reg barS) () (X0 c) :=
  MayOwe.of_cut (L := L) (lev := lv) 1 (fun p hp => by rw [Finset.mem_singleton.mp hp, L_tc]; exact Finset.mem_singleton_self _)
    (fun g u hg => by obtain ⟨k, rfl⟩ := X0_pos hg; exact Finset.mem_singleton_self _)
    (fun p hp => by rw [Finset.mem_singleton.mp hp]; exact Nat.le_refl 1)
    (fun g u hg => by obtain ⟨k, rfl⟩ := X0_pos hg; rw [lv_recv]; decide)

/-! ## The records every device holds, and what one device starts from -/

/-- The seven cells of a device: its barrier, its three send cells, its three receive cells. -/
abbrev csem : Fin 7 → SemLoc sig := fun
  | 0 => .reg barS | 1 => .dma (sendS 0) | 2 => .dma (sendS 1) | 3 => .dma (sendS 2) | 4 => .dma (recvS 0) | 5 => .dma (recvS 1) | 6 => .dma (recvS 2)
/-- A cell by its device and number. -/
abbrev cell (ck : Dev nD × Fin 7) : GSem nD τ sig := ((ck.1 : Thread nD τ), csem ck.2)

/-- The invariants of all cells, under the names `K`, and that each cell has reached its round. -/
def records (K : Dev nD × Fin 7 → ℕ) : sProp 𝕄 :=
  iprop((bigSep Finset.univ fun ck : Dev nD × Fin 7 => cellInv EX (exch m) (K ck) (cell ck))
    ∗ bigSep Finset.univ fun ck : Dev nD × Fin 7 => reached EX (cell ck) 0)

omit [FloatOps F] in
instance records_persistent (K : Dev nD × Fin 7 → ℕ) : BI.Persistent (records m K) := by unfold records; infer_instance

omit [FloatOps F] in
/-- The records hold the invariant of each cell. -/
theorem record_inv (K : Dev nD × Fin 7 → ℕ) (ck : Dev nD × Fin 7) : records m K ⊢ cellInv EX (exch m) (K ck) (cell ck) := by
  unfold records
  iintro ⟨H, -⟩
  iapply (show (bigSep Finset.univ fun ck : Dev nD × Fin 7 => (cellInv EX (exch m) (K ck) (cell ck) : sProp 𝕄)) ⊢ cellInv EX (exch m) (K ck) (cell ck) from bigSep_elim (Finset.mem_univ ck))
  iexact H
omit [FloatOps F] in
/-- The records say that each cell has reached its round. -/
theorem record_reached (K : Dev nD × Fin 7 → ℕ) (ck : Dev nD × Fin 7) : records m K ⊢ reached EX (cell ck) 0 := by
  unfold records
  iintro ⟨-, H⟩
  iapply (show (bigSep Finset.univ fun ck : Dev nD × Fin 7 => (reached EX (cell ck) 0 : sProp 𝕄)) ⊢ reached EX (cell ck) 0 from bigSep_elim (Finset.mem_univ ck))
  iexact H

/-- The duties device `c` pays through its signal `k` and its copy `k`. -/
def payOne (c : Dev nD) (k : Fin 3) : sProp 𝕄 :=
  iprop(dutyTok EX (barCell (up k c)) 0 k.rev ∗ dutyTok EX (sendCell k c) 0 0 ∗ dutyTok EX (recvCell k (up k c)) 0 0)
/-- The tokens of the payments that a device makes. -/
def payToks (c : Dev nD) : sProp 𝕄 := iprop(payOne c 0 ∗ payOne c 1 ∗ payOne c 2)
/-- Device `c`'s positions in its own cells. -/
def posns (c : Dev nD) : sProp 𝕄 :=
  iprop(atPos EX (barCell c) 0 ∅ 0 ∗ (atPos EX (sendCell 0 c) 0 ∅ 0 ∗ atPos EX (sendCell 1 c) 0 ∅ 0 ∗ atPos EX (sendCell 2 c) 0 ∅ 0)
    ∗ atPos EX (recvCell 0 c) 0 ∅ 0 ∗ atPos EX (recvCell 1 c) 0 ∅ 0 ∗ atPos EX (recvCell 2 c) 0 ∅ 0)
/-- The credit device `c` waits with. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What a device starts from. -/
def start (c : Dev nD) : sProp 𝕄 := iprop((∃ K, records m K ∗ posns c ∗ payToks c) ∗ credits c ∗ levAts L lv)

end Cert.Attn

end
-- ==== Proof.Steps.lean ====
/-
# One rule per effect of the kernel

The signals, the waits, the copies, and the loads and stores of the four-slot buffer, each stated at the cells and
contents the exchange gives them.
-/
module

public import proofs.«01_k».proof.Proof.Protocol

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that is done. -/
theorem wpc_ret (c : Dev nD) {α : Type} {Q : α → sProp 𝕄} (a : α) : Q a ⊢ wpc c (Prog.ret a) Q := by
  show Q a ⊢ wp frame (wpE (defs₀ (F := F)) 𝒱₀ (c : Thread nD τ) none) Set.univ (Prog.ret a) Q
  rw [wp_ret]
  iintro H
  imodintro
  iexact H

section Effects

variable (K : Dev nD × Fin 7 → ℕ) (c : Dev nD)

/-- The number of a receive cell. -/
abbrev recvIx (k : Fin 3) : Fin 7 := ⟨4 + k.val, by omega⟩
/-- The number of a send cell. -/
abbrev sendIx (k : Fin 3) : Fin 7 := ⟨1 + k.val, by omega⟩

/-- The receive cell by its number. -/
theorem cell_recv (k : Fin 3) (d : Dev nD) : cell (d, recvIx k) = recvCell k d := by fin_cases k <;> rfl
/-- The send cell by its number. -/
theorem cell_send (k : Fin 3) (d : Dev nD) : cell (d, sendIx k) = sendCell k d := by fin_cases k <;> rfl

omit [FloatOps F] in
/-- The invariant of a receive cell. -/
theorem inv_recv (k : Fin 3) (d : Dev nD) : records m K ⊢ cellInv EX (exch m) (K (d, recvIx k)) (recvCell k d) := by
  rw [← cell_recv]; exact record_inv m K (d, recvIx k)
omit [FloatOps F] in
/-- The invariant of a send cell. -/
theorem inv_send (k : Fin 3) (d : Dev nD) : records m K ⊢ cellInv EX (exch m) (K (d, sendIx k)) (sendCell k d) := by
  rw [← cell_send]; exact record_inv m K (d, sendIx k)
omit [FloatOps F] in
/-- The invariant of a barrier cell. -/
theorem inv_bar (d : Dev nD) : records m K ⊢ cellInv EX (exch m) (K (d, 0)) (barCell d) := record_inv m K (d, 0)
omit [FloatOps F] in
/-- A receive cell has reached its round. -/
theorem at_recv (k : Fin 3) (d : Dev nD) : records m K ⊢ reached EX (recvCell k d) 0 := by
  rw [← cell_recv]; exact record_reached m K (d, recvIx k)
omit [FloatOps F] in
/-- A send cell has reached its round. -/
theorem at_send (k : Fin 3) (d : Dev nD) : records m K ⊢ reached EX (sendCell k d) 0 := by
  rw [← cell_send]; exact record_reached m K (d, sendIx k)
omit [FloatOps F] in
/-- A barrier cell has reached its round. -/
theorem at_bar (d : Dev nD) : records m K ⊢ reached EX (barCell d) 0 := record_reached m K (d, 0)

omit [FloatOps F] in
/-- A signal to a peer carries the slot into which that peer copies. -/
theorem sig_pay (k : Fin 3) (f : Buf (Elt F) ((slotM k.rev.succ).view.loc (c : Thread nD τ))) :
    slotPts c k.rev.succ fullShare f ⊢ (exch m).payload (barCell (up k c)) 0 k.rev := by
  show _ ⊢ (barPay (up k c) k.rev : sProp 𝕄)
  unfold barPay
  rw [up_rev_up]
  exact Laws.exists_intro_trans f (BI.Entails.refl _)

/-- Signal `k`: it hands the device `k+1` places on the slot its copy is to land in. -/
theorem wp_sig {α : Type} {Q : α → sProp 𝕄} (k : Fin 3) (n : Dev nD) (hn : n = up k c) (w : ℕ) (hw : 1 = w) (O : CellTallies nD τ sig Unit) (W : Waits sig Unit)
    {kk : PUnit → Prog (TpuEff nD τ sig (Elt F) Λ₀ .tc) α} (f : Buf (Elt F) ((slotM k.rev.succ).view.loc (c : Thread nD τ))) :
    iprop(records m K ∗ owes (c : Thread nD τ) (O + tallyAt (barCell (up k c)) () 1) W ∗ dutyTok EX (barCell (up k c)) 0 k.rev
        ∗ slotPts c k.rev.succ fullShare f)
      ⊢ iprop((owes (c : Thread nD τ) O W -∗ wpc c (kk ⟨⟩) Q)
          -∗ wpc c (.op (.semSignal (n : Thread nD τ) barS w) kk) Q) := by
  subst hn hw
  iintro ⟨#HR, HO, Ht, Hs⟩ Hk
  iapply (Rounds.wp_signal 𝒱₀ EX (exch m) (c : Thread nD τ) none (dst := (up k c : Thread nD τ)) (κ := K (up k c, 0))
      (d := k.rev) (by rw [duties_bar]; exact Finset.mem_univ _) rfl () O rfl) $$ [HO Ht Hs]
  · isplitr; · iapply (inv_bar m K (up k c)); iexact HR
    isplitl [HO]; · iexact HO
    isplitl [Ht]; · iexact Ht
    isplitl [Hs]
    · iapply (sig_pay m c k f); iexact Hs
    · iapply (at_bar m K (up k c)); iexact HR
  iexact Hk

/-- The wait for the three signals: the three slots the device is to copy into come with it. -/
theorem wp_wait_bar {α : Type} {Q : α → sProp 𝕄} (w : ℕ) (hw : w = 3) (W : Waits sig Unit) {kk : PUnit → Prog (TpuEff nD τ sig (Elt F) Λ₀ .tc) α} :
    iprop(records m K ∗ levAts L lv ∗ cred (tallyAt (barCell c) () 3) ∗ owes (c : Thread nD τ) (X0 c) W ∗ atPos EX (barCell c) 0 ∅ 0)
      ⊢ iprop(((owes (c : Thread nD τ) (X0 c) (insert (SemLoc.reg barS, ()) W) ∗ atPos EX (barCell c) (0 + 1) ∅ 0
            ∗ barPay c 0 ∗ barPay c 1 ∗ barPay c 2) -∗ wpc c (kk ⟨⟩) Q)
          -∗ wpc c (.op (.semWait barS w) kk) Q) := by
  subst hw
  iintro ⟨#HR, #Hlev, Hc, HO, Hat⟩ Hk
  iapply (Rounds.wp_wait_rest_token 𝒱₀ EX (exch m) (c : Thread nD τ) none (κ := K (c, 0))
      (wpE_semWait_eq 𝒱₀ (c : Thread nD τ) none Set.univ) (Set.mem_univ _) () (O := X0 c) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The wait for the arrival of copy `k`, nothing being owed: its slot, holding the block of the device that copied. -/
theorem wp_wait_recv {α : Type} {Q : α → sProp 𝕄} (k : Fin 3) (sm : DmaSem sig) (hsm : sm = recvS k) (W : Waits sig Unit)
    {kk : PUnit → Prog (TpuEff nD τ sig (Elt F) Λ₀ .tc) α} (i j : Fin 4)
    {hsrc : (slotM i).view.WordExact} {hdst : (slotM j).view.WordExact} :
    iprop(records m K ∗ cred (tallyAt (recvCell k c) () N) ∗ owes (c : Thread nD τ) 0 W ∗ atPos EX (recvCell k c) 0 ∅ 0)
      ⊢ iprop(((owes (c : Thread nD τ) 0 (insert (SemLoc.dma (recvS k), ()) W) ∗ atPos EX (recvCell k c) (0 + 1) ∅ 0
            ∗ slotPts c k.succ fullShare (spread (blkOf m (dn k c)))) -∗ wpc c (kk ⟨⟩) Q)
          -∗ wpc c (.op (.waitDma2 sm (slotM i) (slotM j) hsrc hdst) kk) Q) := by
  subst hsm
  iintro ⟨#HR, Hc, HO, Hat⟩ Hk
  iapply (Rounds.wp_wait_rest_token 𝒱₀ EX (exch m) (c : Thread nD τ) none (κ := K (c, recvIx k))
      (wpE_waitDma2_eq (src := slotM i) (dst := slotM j) (hsrc := hsrc) (hdst := hdst) 𝒱₀ (c : Thread nD τ) none Set.univ) (Set.mem_univ _) () (O := 0) (W := W) (R := 0) (m := 0) (T := ∅) (k' := N)
      (by rw [Nat.zero_add, expect_recv])) $$ [Hc HO Hat]
  · isplitr; · iapply (inv_recv m K k c); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  iapply Hk
  isplitl [HO]; · iexact HO
  isplitl [Hat]; · iexact Hat
  unfold recvPay
  iexact Hp

/-- The wait for the end of copy `k`: the share of slot 0 lent to it. -/
theorem wp_wait_send {α : Type} {Q : α → sProp 𝕄} (k : Fin 3) (sm : DmaSem sig) (hsm : sm = sendS k) (W : Waits sig Unit)
    {kk : PUnit → Prog (TpuEff nD τ sig (Elt F) Λ₀ .tc) α} (i j : Fin 4)
    {hsrc : (slotM i).view.WordExact} {hdst : (slotM j).view.WordExact} :
    iprop(records m K ∗ cred (tallyAt (sendCell k c) () N) ∗ owes (c : Thread nD τ) 0 W ∗ atPos EX (sendCell k c) 0 ∅ 0)
      ⊢ iprop(((owes (c : Thread nD τ) 0 (insert (SemLoc.dma (sendS k), ()) W) ∗ atPos EX (sendCell k c) (0 + 1) ∅ 0
            ∗ slotPts c 0 (lent k) (spread (blkOf m c))) -∗ wpc c (kk ⟨⟩) Q)
          -∗ wpc c (.op (.waitDma2 sm (slotM i) (slotM j) hsrc hdst) kk) Q) := by
  subst hsm
  iintro ⟨#HR, Hc, HO, Hat⟩ Hk
  iapply (Rounds.wp_wait_rest_token 𝒱₀ EX (exch m) (c : Thread nD τ) none (κ := K (c, sendIx k))
      (wpE_waitDma2_eq (src := slotM i) (dst := slotM j) (hsrc := hsrc) (hdst := hdst) 𝒱₀ (c : Thread nD τ) none Set.univ) (Set.mem_univ _) () (O := 0) (W := W) (R := 0) (m := 0) (T := ∅) (k' := N)
      (by rw [Nat.zero_add, expect_send])) $$ [Hc HO Hat]
  · isplitr; · iapply (inv_send m K k c); iexact HR
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  iapply Hk
  isplitl [HO]; · iexact HO
  isplitl [Hat]; · iexact Hat
  unfold sendPay
  iexact Hp

/-- Copy `k`: slot 0 into slot `k+1` of the device `k+1` places on. -/
theorem wp_copy {α : Type} {Q : α → sProp 𝕄} (k : Fin 3) (n : Dev nD) (hn : n = up k c) (sS sR : DmaSem sig) (hS : sS = sendS k) (hR : sR = recvS k)
    {hsc : (slotM k.succ : Memref sig (Dev.tc n : Thread nD τ).2.kind .vmem S2x2x2x128x64 .bf16).view.ref.isScScratch = false}
    {hsrc : (slotM 0).view.WordExact} {hdst : (slotM k.succ).view.WordExact}
    {hsem : DmaTarget.Typed .vmem (.dma sR) (.remote (Dev.tc n : Thread nD τ) (slotM k.succ) (.dma sS) hsc)}
    {kk : PUnit → Prog (TpuEff nD τ sig (Elt F) Λ₀ .tc) α}
    (f : Buf (Elt F) ((slotM k.succ).view.loc (up k c : Thread nD τ))) (O : CellTallies nD τ sig Unit) (W : Waits sig Unit) :
    iprop(records m K ∗ slotPts c 0 (lent k) (spread (blkOf m c)) ∗ slotPts (up k c) k.succ fullShare f
        ∗ owes (c : Thread nD τ) (O + tallyAt (recvCell k (up k c)) () N) W
        ∗ dutyTok EX (sendCell k c) 0 0 ∗ dutyTok EX (recvCell k (up k c)) 0 0)
      ⊢ iprop(((cred (tallyAt (sendCell k c) () N) ∗ owes (c : Thread nD τ) O W) -∗ wpc c (kk ⟨⟩) Q)
          -∗ wpc c (.op (.enqueueDma (slotM 0) (.remote (Dev.tc n : Thread nD τ) (slotM k.succ) (.dma sS) hsc) (.dma sR) hsrc hdst hsem) kk) Q) := by
  subst hn hS hR
  iintro ⟨#HR, Hs, Hd, HO, Ht, Ht'⟩ Hk
  unfold slotPts
  iapply (Rounds.wp_send_pointsTo 𝒱₀ EX (exch m) (c : Thread nD τ) none (κ₁ := K (c, sendIx k)) (κ₂ := K (up k c, recvIx k))
    (c' := (up k c : Thread nD τ)) (src := slotM 0) (dst := slotM k.succ) (fs := spread (blkOf m c)) (q := lent k)
    (r₁ := 0) (r₂ := 0) (d₁ := 0) (d₂ := 0) (fd := f)
    (by rw [duties_send]; exact Finset.mem_singleton_self _) (by rw [duties_recv]; exact Finset.mem_singleton_self _)
    () () N rfl rfl rfl O rfl (W := W)
    (by rw [payload_send]; exact BI.Entails.refl _)
    (by rw [payload_recv]; unfold recvPay; rw [dn_up]; exact Entails.of_eq (slotPts_landed (up k c) 0 k.succ fullShare f (blkOf m c)))) $$ [Hs Hd HO Ht Ht']
  · isplitr; · iapply (inv_send m K k c); iexact HR
    isplitr; · iapply (inv_recv m K k (up k c)); iexact HR
    isplitl [Hs]; · iexact Hs
    isplitl [Hd]; · iexact Hd
    isplitl [HO]; · iexact HO
    isplitl [Ht]; · iexact Ht
    isplitr; · iapply (at_send m K k c); iexact HR
    isplitl [Ht']; · iexact Ht'
    iapply (at_recv m K k (up k c)); iexact HR
  iexact Hk

end Effects

/-! ## Tiles of a slot -/

/-- Keys (`a = 0`) or values (`a = 1`) of batch `b` and head `g` of a block, as the kernel loads them. -/
def tile (X : Blk F) (a b g : ℕ) : S1x1x1x1x128x64.Idx → Elt F .bf16 := fun y =>
  X (fun | ⟨0, _⟩ => ⟨a % 2, Nat.mod_lt _ (by decide)⟩ | ⟨1, _⟩ => ⟨b % 2, Nat.mod_lt _ (by decide)⟩ | ⟨2, _⟩ => ⟨g % 2, Nat.mod_lt _ (by decide)⟩
         | ⟨3, _⟩ => y 4 | ⟨4, _⟩ => y 5)

/-- A tile lies inside the buffer. -/
abbrev tileInb (j a b g : ℕ) : Prop := ∀ i, (![j, a, b, g, 0, 0] : Fin 6 → ℕ) i + S1x1x1x1x128x64.size i ≤ S4x2x2x2x128x64.size i
/-- The box of a tile in the four-slot buffer. -/
abbrev tileR (j a b g : ℕ) (h : tileInb j a b g) : Rect S4x2x2x2x128x64 :=
  Rect.unit (s := S4x2x2x2x128x64) ![j, a, b, g, 0, 0] S1x1x1x1x128x64.size h

/-- A tile's coordinates are in range. -/
theorem tileInb_lt {j a b g : ℕ} (h : tileInb j a b g) : j < 4 ∧ a < 2 ∧ b < 2 ∧ g < 2 := by
  have h0 : j + 1 ≤ 4 := h 0
  have h1 : a + 1 ≤ 2 := h 1
  have h2 : b + 1 ≤ 2 := h 2
  have h3 : g + 1 ≤ 2 := h 3
  omega

/-- A tile lies in its slot. -/
theorem tileR_subset (j a b g : ℕ) (h : tileInb j a b g) (i : Fin 4) (hi : i.val = j) : (tileR j a b g h).set ⊆ slotSet i := by
  intro y hy
  rw [Rect.mem_set_unit] at hy
  rw [mem_slotSet]
  have h1 : j ≤ (y 0).val := (hy 0).1
  have h2 : (y 0).val < j + 1 := (hy 0).2
  omega

omit [FloatOps F] in
/-- A load of a tile reads the tile. -/
theorem read_tile (j a b g : ℕ) (h : tileInb j a b g) (X : Blk F) :
    (kvM.access (tileR j a b g h)).read (Elt F) (spread X) = tile X a b g := by
  obtain ⟨-, ha, hb, hg⟩ := tileInb_lt h
  funext y
  have h1 : (kvM.access (tileR j a b g h)).read (Elt F) (spread X) y = spread X ((tileR j a b g h).emb y) := rfl
  rw [h1]
  unfold spread tile
  refine congrArg X (funext fun i => Fin.ext ?_)
  have e1 : (y 1).val = 0 := by have : (y 1).val < 1 := (y 1).isLt; omega
  have e2 : (y 2).val = 0 := by have : (y 2).val < 1 := (y 2).isLt; omega
  have e3 : (y 3).val = 0 := by have : (y 3).val < 1 := (y 3).isLt; omega
  match i with
  | ⟨0, _⟩ => show ((tileR j a b g h).emb y 1).val = a % 2; rw [Rect.emb_apply]; show a + 1 * (y 1).val = a % 2; rw [e1, Nat.mod_eq_of_lt ha]; rfl
  | ⟨1, _⟩ => show ((tileR j a b g h).emb y 2).val = b % 2; rw [Rect.emb_apply]; show b + 1 * (y 2).val = b % 2; rw [e2, Nat.mod_eq_of_lt hb]; rfl
  | ⟨2, _⟩ => show ((tileR j a b g h).emb y 3).val = g % 2; rw [Rect.emb_apply]; show g + 1 * (y 3).val = g % 2; rw [e3, Nat.mod_eq_of_lt hg]; rfl
  | ⟨3, _⟩ => show ((tileR j a b g h).emb y 4).val = (y 4).val; rw [Rect.emb_apply]; exact (Nat.zero_add _).trans (Nat.one_mul _)
  | ⟨4, _⟩ => show ((tileR j a b g h).emb y 5).val = (y 5).val; rw [Rect.emb_apply]; exact (Nat.zero_add _).trans (Nat.one_mul _)

section Access

variable (c : Dev nD)

/-- A load of a tile of slot `i` holding `X`. -/
theorem wp_load_tile {α : Type} {Q : α → sProp 𝕄} (i : Fin 4) (j a b g : ℕ) {h : tileInb j a b g} (hi : i.val = j) (q : PosShare TreeShare) (X : Blk F)
    {hl : kvM.view.LoadsAt (tileR j a b g h).toLoadRect}
    {kk : (S1x1x1x1x128x64.Idx → Elt F .bf16) → Prog (TpuEff nD τ sig (Elt F) Λ₀ .tc) α} :
    slotPts c i q (spread X)
      ⊢ iprop((slotPts c i q (spread X) -∗ wpc c (kk (tile X a b g)) Q)
          -∗ wpc c (.op (.load kvM (tileR j a b g h).toLoadRect hl) kk) Q) := by
  unfold slotPts
  iintro H Hk
  iapply (wp_load_rect 𝒱₀ (c : Thread nD τ) none Set.univ (m := kvM) (r := tileR j a b g h) (S := slotSet i) (f := spread X) (q := q)
    ((View.set_slice_whole _ _).le.trans (tileR_subset j a b g h i hi))) $$ H
  iintro H
  rw [read_tile]
  iapply Hk
  iexact H

/-- A load of slot 0 whose result is not used. -/
theorem wp_load_any {α : Type} {Q : α → sProp 𝕄} (j a b g : ℕ) {h : tileInb j a b g} (hj : 0 = j) (f : Buf (Elt F) ((slotM 0).view.loc (c : Thread nD τ)))
    {hl : kvM.view.LoadsAt (tileR j a b g h).toLoadRect}
    {p : Prog (TpuEff nD τ sig (Elt F) Λ₀ .tc) α} :
    slotPts c 0 fullShare f
      ⊢ iprop((slotPts c 0 fullShare f -∗ wpc c p Q)
          -∗ wpc c (.op (.load kvM (tileR j a b g h).toLoadRect hl) (fun _ => p)) Q) := by
  unfold slotPts
  iintro H Hk
  iapply (wp_load_rect 𝒱₀ (c : Thread nD τ) none Set.univ (m := kvM) (r := tileR j a b g h) (S := slotSet 0) (f := f) (q := fullShare)
    ((View.set_slice_whole _ _).le.trans (tileR_subset j a b g h 0 hj))) $$ H
  iexact Hk

/-- A store into a tile of slot 0, the stores so far kept as a list. -/
theorem wp_store_tile {α : Type} {Q : α → sProp 𝕄} (j a b g : ℕ) {h : tileInb j a b g} (hj : 0 = j) (f : Buf (Elt F) ((slotM 0).view.loc (c : Thread nD τ)))
    (Ls : List (View.Piece (Elt F) S4x2x2x2x128x64 .bf16)) (w : S1x1x1x1x128x64.Idx → Elt F .bf16)
    {hx : (kvM.access (tileR j a b g h)).Stores Finset.univ} {hm : Finset.univ = Finset.univ ∨ ∀ a', (tileR j a b g h).stride a' = 1}
    {kk : PUnit → Prog (TpuEff nD τ sig (Elt F) Λ₀ .tc) α} :
    slotPts c 0 fullShare (kvM.view.writes (Elt F) f Ls)
      ⊢ iprop((slotPts c 0 fullShare (kvM.view.writes (Elt F) f (⟨tileR j a b g h, w⟩ :: Ls)) -∗ wpc c (kk ⟨⟩) Q)
          -∗ wpc c (.op (.store kvM (tileR j a b g h) w Finset.univ hx hm) kk) Q) := by
  unfold slotPts
  iintro H Hk
  iapply (wp_store_writes 𝒱₀ (c : Thread nD τ) none Set.univ (m := kvM) (S := slotSet 0) (f := f) (L := Ls) (r := tileR j a b g h) (w := w)
    ((View.set_slice_whole _ _).le.trans (tileR_subset j a b g h 0 hj))) $$ H
  iexact Hk

end Access

end Cert.Attn

end
-- ==== Proof.PartsB.lean ====
/-
# The kernel's later parts: the partial sums over the four blocks

Parts 6 to 15 of the kernel, each from the slots and cells it uses to the values it hands on.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- Both offsets are zero. -/
theorem hz2 : (![0, 0] : Fin 2 → Nat) = fun _ => 0 := funext fun a => by fin_cases a <;> rfl
omit [FloatOps F] in
/-- All three offsets are zero. -/
theorem hz3 : (![0, 0, 0] : Fin 3 → Nat) = fun _ => 0 := funext fun a => by fin_cases a <;> rfl
omit [FloatOps F] in
/-- A load of all output weights reads all of them. -/
theorem read_wo (f : (cc0_stg2_0 : Ref sig .tc).ty.Contents (Elt F)) :
    woM.view.readAt (Elt F) (Rect.unit (s := S512x512) ![0, 0] S512x512.size inb_S512x512_S512x512_0_0).toLoadRect f = f :=
  Memref.readAt_unit_zero (Elt F) cc0_stg2_0 hz2 _ f

set_option maxHeartbeats 1000000 in
/-- Part 6 of the kernel: its waits and loads, and the values it hands on. -/
theorem part6_spec (c : Dev nD) (q : PosShare TreeShare) (X : Blk F)
    (v105 : FVec F S512x64 .bf16) (v110 : FVec F S512x64 .bf16) {Q : _ → sProp 𝕄} :
    iprop(slotPts c 0 q (spread X)
        ∗ (slotPts c 0 q (spread X)
            -∗ Q ⟨k0_pay16 v105 (tile X 0 0 0), k0_pay17 v105 (tile X 0 0 0) (tile X 1 0 0), k0_pay19 v110 (tile X 0 0 1), k0_pay20 v110 (tile X 0 0 1) (tile X 1 0 1), k0_pay21 (tile X 0 1 0)⟩))
      ⊢ wpc c (k0_part6 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v105 v110) Q := by
  rw [k0_part6_eq_skeleton]; unfold k0_part6_skel
  simp only [Prog.lift, Prog.bind_op, Prog.bind_ret, Prog.pure_eq_ret]
  iintro ⟨Hs, Hk⟩
  iapply (wp_load_tile c 0 0 0 0 0 rfl q X) $$ Hs; iintro Hs
  iapply (wp_load_tile c 0 0 1 0 0 rfl q X) $$ Hs; iintro Hs
  iapply (wp_load_tile c 0 0 0 0 1 rfl q X) $$ Hs; iintro Hs
  iapply (wp_load_tile c 0 0 1 0 1 rfl q X) $$ Hs; iintro Hs
  iapply (wp_load_tile c 0 0 0 1 0 rfl q X) $$ Hs; iintro Hs
  iapply (wpc_ret c); iapply Hk
  iexact Hs

set_option maxHeartbeats 1000000 in
/-- Part 7 of the kernel: its waits and loads, and the values it hands on. -/
theorem part7_spec (c : Dev nD) (q : PosShare TreeShare) (X : Blk F)
    (v57 : BitVec 32) (v115 : FVec F S512x64 .bf16) (v120 : FVec F S512x64 .bf16) (v142 : FVec F S128x64 .bf16) {Q : _ → sProp 𝕄} :
    iprop(slotPts c 0 q (spread X)
        ∗ (slotPts c 0 q (spread X)
            -∗ Q ⟨k0_pay23 v115 v142, k0_pay24 v115 v142 (tile X 1 1 0), k0_pay26 v120 (tile X 0 1 1), k0_pay27 v120 (tile X 0 1 1) (tile X 1 1 1)⟩))
      ⊢ wpc c (k0_part7 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v57 v115 v120 v142) Q := by
  rw [k0_part7_eq_skeleton]; unfold k0_part7_skel
  simp only [Prog.lift, Prog.bind_op, Prog.bind_ret, Prog.pure_eq_ret]
  iintro ⟨Hs, Hk⟩
  iapply (wp_load_tile c 0 0 1 1 0 rfl q X) $$ Hs; iintro Hs
  iapply (wp_load_tile c 0 0 0 1 1 rfl q X) $$ Hs; iintro Hs
  iapply (wp_load_tile c 0 0 1 1 1 rfl q X) $$ Hs; iintro Hs
  iapply (wpc_ret c); iapply Hk
  iexact Hs

set_option maxHeartbeats 1000000 in
/-- Part 8 of the kernel: its waits and loads, and the values it hands on. -/
theorem part8_spec (c : Dev nD) (K : Dev nD × Fin 7 → ℕ) (W : Waits sig Unit)
    (v105 : FVec F S512x64 .bf16) (v110 : FVec F S512x64 .bf16) (v128 : FVec F S512x1 .f32) (v130 : FVec F S512x64 .f32) (v138 : FVec F S512x1 .f32) (v140 : FVec F S512x64 .f32) {Q : _ → sProp 𝕄} :
    iprop((records m K
        ∗ owes (c : Thread nD τ) 0 W
        ∗ cred (tallyAt (recvCell 0 c) () N)
        ∗ atPos EX (recvCell 0 c) 0 ∅ 0)
        ∗ ((owes (c : Thread nD τ) 0 (insert (SemLoc.dma (recvS 0), ()) W) ∗ atPos EX (recvCell 0 c) (0 + 1) ∅ 0 ∗ slotPts c 1 fullShare (spread (blkOf m (dn 0 c))))
            -∗ Q ⟨k0_pay29 v105 v128 (tile (blkOf m (dn 0 c)) 0 0 0), k0_pay30 v105 v130 (tile (blkOf m (dn 0 c)) 0 0 0) (tile (blkOf m (dn 0 c)) 1 0 0), k0_pay32 v110 v138 (tile (blkOf m (dn 0 c)) 0 0 1), k0_pay33 v110 v140 (tile (blkOf m (dn 0 c)) 0 0 1) (tile (blkOf m (dn 0 c)) 1 0 1)⟩))
      ⊢ wpc c (k0_part8 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v105 v110 v128 v130 v138 v140) Q := by
  rw [k0_part8_eq_skeleton]; unfold k0_part8_skel
  simp only [Prog.lift, Prog.bind_op, Prog.bind_ret, Prog.pure_eq_ret]
  iintro ⟨⟨#HR, HO, Hc0, Ha0⟩, Hk⟩
  iapply (wp_wait_recv m K c 0 _ rfl W 0 1) $$ [Hc0 HO Ha0]
  · isplitr; · iexact HR
    isplitl [Hc0]; · iexact Hc0
    isplitl [HO]; · iexact HO
    iexact Ha0
  iintro ⟨HO, Ha0, Hs⟩
  ihave Hs := (show slotPts c (Fin.succ 0) fullShare (spread (blkOf m (dn 0 c))) ⊢ slotPts c 1 fullShare (spread (blkOf m (dn 0 c))) from BI.Entails.refl _) $$ Hs
  iapply (wp_load_tile c 1 1 0 0 0 rfl fullShare (blkOf m (dn 0 c))) $$ Hs; iintro Hs
  iapply (wp_load_tile c 1 1 1 0 0 rfl fullShare (blkOf m (dn 0 c))) $$ Hs; iintro Hs
  iapply (wp_load_tile c 1 1 0 0 1 rfl fullShare (blkOf m (dn 0 c))) $$ Hs; iintro Hs
  iapply (wp_load_tile c 1 1 1 0 1 rfl fullShare (blkOf m (dn 0 c))) $$ Hs; iintro Hs
  iapply (wpc_ret c); iapply Hk
  isplitl [HO]; · iexact HO
  isplitl [Ha0]; · iexact Ha0
  iexact Hs

set_option maxHeartbeats 1000000 in
/-- Part 9 of the kernel: its waits and loads, and the values it hands on. -/
theorem part9_spec (c : Dev nD) (q : PosShare TreeShare) (X : Blk F)
    (v81 : BitVec 32) (v115 : FVec F S512x64 .bf16) (v120 : FVec F S512x64 .bf16) (v148 : FVec F S512x1 .f32) (v150 : FVec F S512x64 .f32) (v158 : FVec F S512x1 .f32) (v160 : FVec F S512x64 .f32) {Q : _ → sProp 𝕄} :
    iprop(slotPts c 1 q (spread X)
        ∗ (slotPts c 1 q (spread X)
            -∗ Q ⟨k0_pay35 v115 v148 (tile X 0 1 0), k0_pay36 v115 v150 (tile X 0 1 0) (tile X 1 1 0), k0_pay38 v120 v158 (tile X 0 1 1), k0_pay39 v120 v160 (tile X 0 1 1) (tile X 1 1 1)⟩))
      ⊢ wpc c (k0_part9 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v81 v115 v120 v148 v150 v158 v160) Q := by
  rw [k0_part9_eq_skeleton]; unfold k0_part9_skel
  simp only [Prog.lift, Prog.bind_op, Prog.bind_ret, Prog.pure_eq_ret]
  iintro ⟨Hs, Hk⟩
  iapply (wp_load_tile c 1 1 0 1 0 rfl q X) $$ Hs; iintro Hs
  iapply (wp_load_tile c 1 1 1 1 0 rfl q X) $$ Hs; iintro Hs
  iapply (wp_load_tile c 1 1 0 1 1 rfl q X) $$ Hs; iintro Hs
  iapply (wp_load_tile c 1 1 1 1 1 rfl q X) $$ Hs; iintro Hs
  iapply (wpc_ret c); iapply Hk
  iexact Hs

set_option maxHeartbeats 1000000 in
/-- Part 10 of the kernel: its waits and loads, and the values it hands on. -/
theorem part10_spec (c : Dev nD) (K : Dev nD × Fin 7 → ℕ) (W : Waits sig Unit)
    (v105 : FVec F S512x64 .bf16) (v110 : FVec F S512x64 .bf16) (v179 : FVec F S512x1 .f32) (v180 : FVec F S512x64 .f32) {Q : _ → sProp 𝕄} :
    iprop((records m K
        ∗ owes (c : Thread nD τ) 0 W
        ∗ cred (tallyAt (recvCell 2 c) () N)
        ∗ atPos EX (recvCell 2 c) 0 ∅ 0)
        ∗ ((owes (c : Thread nD τ) 0 (insert (SemLoc.dma (recvS 2), ()) W) ∗ atPos EX (recvCell 2 c) (0 + 1) ∅ 0 ∗ slotPts c 3 fullShare (spread (blkOf m (dn 2 c))))
            -∗ Q ⟨k0_pay41 v105 v179 (tile (blkOf m (dn 2 c)) 0 0 0), k0_pay42 v105 v180 (tile (blkOf m (dn 2 c)) 0 0 0) (tile (blkOf m (dn 2 c)) 1 0 0), k0_pay43 (tile (blkOf m (dn 2 c)) 1 0 1), k0_pay44 v110 (tile (blkOf m (dn 2 c)) 0 0 1)⟩))
      ⊢ wpc c (k0_part10 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v105 v110 v179 v180) Q := by
  rw [k0_part10_eq_skeleton]; unfold k0_part10_skel
  simp only [Prog.lift, Prog.bind_op, Prog.bind_ret, Prog.pure_eq_ret]
  iintro ⟨⟨#HR, HO, Hc2, Ha2⟩, Hk⟩
  iapply (wp_wait_recv m K c 2 _ rfl W 0 3) $$ [Hc2 HO Ha2]
  · isplitr; · iexact HR
    isplitl [Hc2]; · iexact Hc2
    isplitl [HO]; · iexact HO
    iexact Ha2
  iintro ⟨HO, Ha2, Hs⟩
  ihave Hs := (show slotPts c (Fin.succ 2) fullShare (spread (blkOf m (dn 2 c))) ⊢ slotPts c 3 fullShare (spread (blkOf m (dn 2 c))) from BI.Entails.refl _) $$ Hs
  iapply (wp_load_tile c 3 3 0 0 0 rfl fullShare (blkOf m (dn 2 c))) $$ Hs; iintro Hs
  iapply (wp_load_tile c 3 3 1 0 0 rfl fullShare (blkOf m (dn 2 c))) $$ Hs; iintro Hs
  iapply (wp_load_tile c 3 3 0 0 1 rfl fullShare (blkOf m (dn 2 c))) $$ Hs; iintro Hs
  iapply (wp_load_tile c 3 3 1 0 1 rfl fullShare (blkOf m (dn 2 c))) $$ Hs; iintro Hs
  iapply (wpc_ret c); iapply Hk
  isplitl [HO]; · iexact HO
  isplitl [Ha2]; · iexact Ha2
  iexact Hs

set_option maxHeartbeats 1000000 in
/-- Part 11 of the kernel: its waits and loads, and the values it hands on. -/
theorem part11_spec (c : Dev nD) (q : PosShare TreeShare) (X : Blk F)
    (v115 : FVec F S512x64 .bf16) (v120 : FVec F S512x64 .bf16) (v191 : FVec F S512x1 .f32) (v192 : FVec F S512x64 .f32) (v203 : FVec F S512x1 .f32) (v204 : FVec F S512x64 .f32) (v240 : FVec F S128x64 .bf16) (v241 : FVec F S512x128 .f32) {Q : _ → sProp 𝕄} :
    iprop(slotPts c 3 q (spread X)
        ∗ (slotPts c 3 q (spread X)
            -∗ Q ⟨k0_pay46 v191 v241, k0_pay47 v192 v240 v241, k0_pay49 v115 v203 (tile X 0 1 0), k0_pay50 v115 v204 (tile X 0 1 0) (tile X 1 1 0), k0_pay51 (tile X 1 1 1), k0_pay53 v120 (tile X 0 1 1), k0_pay54 v120 (tile X 0 1 1), constant S512x64 .f32 0x00000000#32⟩))
      ⊢ wpc c (k0_part11 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v115 v120 v191 v192 v203 v204 v240 v241) Q := by
  rw [k0_part11_eq_skeleton]; unfold k0_part11_skel
  simp only [Prog.lift, Prog.bind_op, Prog.bind_ret, Prog.pure_eq_ret]
  iintro ⟨Hs, Hk⟩
  iapply (wp_load_tile c 3 3 0 1 0 rfl q X) $$ Hs; iintro Hs
  iapply (wp_load_tile c 3 3 1 1 0 rfl q X) $$ Hs; iintro Hs
  iapply (wp_load_tile c 3 3 0 1 1 rfl q X) $$ Hs; iintro Hs
  iapply (wp_load_tile c 3 3 1 1 1 rfl q X) $$ Hs; iintro Hs
  iapply (wpc_ret c); iapply Hk
  iexact Hs

set_option maxHeartbeats 1000000 in
/-- Part 12 of the kernel: its waits and loads, and the values it hands on. -/
theorem part12_spec (c : Dev nD) (K : Dev nD × Fin 7 → ℕ) (W : Waits sig Unit)
    (v69 : BitVec 32) (v105 : FVec F S512x64 .bf16) (v215 : FVec F S512x1 .f32) (v216 : FVec F S512x64 .f32) (v235 : FVec F S512x1 .f32) (v236 : FVec F S512x64 .f32) (v264 : FVec F S128x64 .bf16) (v268 : FVec F S512x1 .f32) (v269 : FVec F S512x128 .bf16) (cst_361 : FVec F S512x64 .f32) {Q : _ → sProp 𝕄} :
    iprop((records m K
        ∗ owes (c : Thread nD τ) 0 W
        ∗ cred (tallyAt (recvCell 1 c) () N)
        ∗ atPos EX (recvCell 1 c) 0 ∅ 0)
        ∗ ((owes (c : Thread nD τ) 0 (insert (SemLoc.dma (recvS 1), ()) W) ∗ atPos EX (recvCell 1 c) (0 + 1) ∅ 0 ∗ slotPts c 2 fullShare (spread (blkOf m (dn 1 c))))
            -∗ Q ⟨k0_pay55 v215 v268, k0_pay56 v216 v264 v269 cst_361, k0_pay58 v105 v235 (tile (blkOf m (dn 1 c)) 0 0 0), k0_pay59 v105 v236 (tile (blkOf m (dn 1 c)) 0 0 0) (tile (blkOf m (dn 1 c)) 1 0 0)⟩))
      ⊢ wpc c (k0_part12 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v69 v105 v215 v216 v235 v236 v264 v268 v269 cst_361) Q := by
  rw [k0_part12_eq_skeleton]; unfold k0_part12_skel
  simp only [Prog.lift, Prog.bind_op, Prog.bind_ret, Prog.pure_eq_ret]
  iintro ⟨⟨#HR, HO, Hc1, Ha1⟩, Hk⟩
  iapply (wp_wait_recv m K c 1 _ rfl W 0 2) $$ [Hc1 HO Ha1]
  · isplitr; · iexact HR
    isplitl [Hc1]; · iexact Hc1
    isplitl [HO]; · iexact HO
    iexact Ha1
  iintro ⟨HO, Ha1, Hs⟩
  ihave Hs := (show slotPts c (Fin.succ 1) fullShare (spread (blkOf m (dn 1 c))) ⊢ slotPts c 2 fullShare (spread (blkOf m (dn 1 c))) from BI.Entails.refl _) $$ Hs
  iapply (wp_load_tile c 2 2 0 0 0 rfl fullShare (blkOf m (dn 1 c))) $$ Hs; iintro Hs
  iapply (wp_load_tile c 2 2 1 0 0 rfl fullShare (blkOf m (dn 1 c))) $$ Hs; iintro Hs
  iapply (wpc_ret c); iapply Hk
  isplitl [HO]; · iexact HO
  isplitl [Ha1]; · iexact Ha1
  iexact Hs

set_option maxHeartbeats 1000000 in
/-- Part 13 of the kernel: its waits and loads, and the values it hands on. -/
theorem part13_spec (c : Dev nD) (q : PosShare TreeShare) (X : Blk F)
    (v110 : FVec F S512x64 .bf16) (v115 : FVec F S512x64 .bf16) (v247 : FVec F S512x1 .f32) (v248 : FVec F S512x64 .f32) (v259 : FVec F S512x1 .f32) (v260 : FVec F S512x64 .f32) {Q : _ → sProp 𝕄} :
    iprop(slotPts c 2 q (spread X)
        ∗ (slotPts c 2 q (spread X)
            -∗ Q ⟨k0_pay61 v110 v247 (tile X 0 0 1), k0_pay62 v110 v248 (tile X 0 0 1) (tile X 1 0 1), k0_pay64 v115 v259 (tile X 0 1 0), k0_pay65 v115 v260 (tile X 0 1 0) (tile X 1 1 0), k0_pay66 (tile X 0 1 1)⟩))
      ⊢ wpc c (k0_part13 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v110 v115 v247 v248 v259 v260) Q := by
  rw [k0_part13_eq_skeleton]; unfold k0_part13_skel
  simp only [Prog.lift, Prog.bind_op, Prog.bind_ret, Prog.pure_eq_ret]
  iintro ⟨Hs, Hk⟩
  iapply (wp_load_tile c 2 2 0 0 1 rfl q X) $$ Hs; iintro Hs
  iapply (wp_load_tile c 2 2 1 0 1 rfl q X) $$ Hs; iintro Hs
  iapply (wp_load_tile c 2 2 0 1 0 rfl q X) $$ Hs; iintro Hs
  iapply (wp_load_tile c 2 2 1 1 0 rfl q X) $$ Hs; iintro Hs
  iapply (wp_load_tile c 2 2 0 1 1 rfl q X) $$ Hs; iintro Hs
  iapply (wpc_ret c); iapply Hk
  iexact Hs

set_option maxHeartbeats 1000000 in
/-- Part 14 of the kernel: its waits and loads, and the values it hands on. -/
theorem part14_spec (c : Dev nD) (K : Dev nD × Fin 7 → ℕ) (W : Waits sig Unit) (q : PosShare TreeShare) (X : Blk F)
    (v120 : FVec F S512x64 .bf16) (v271 : FVec F S512x1 .f32) (v272 : FVec F S512x64 .f32) (v318 : FVec F S128x64 .bf16) {Q : _ → sProp 𝕄} :
    iprop((records m K
        ∗ owes (c : Thread nD τ) 0 W
        ∗ cred (tallyAt (sendCell 0 c) () N)
        ∗ atPos EX (sendCell 0 c) 0 ∅ 0
        ∗ cred (tallyAt (sendCell 1 c) () N)
        ∗ atPos EX (sendCell 1 c) 0 ∅ 0
        ∗ slotPts c 2 q (spread X))
        ∗ ((owes (c : Thread nD τ) 0 (insert (SemLoc.dma (sendS 1), ()) (insert (SemLoc.dma (sendS 0), ()) W)) ∗ atPos EX (sendCell 0 c) (0 + 1) ∅ 0 ∗ slotPts c 0 (lent 0) (spread (blkOf m c)) ∗ atPos EX (sendCell 1 c) (0 + 1) ∅ 0 ∗ slotPts c 0 (lent 1) (spread (blkOf m c)) ∗ slotPts c 2 q (spread X))
            -∗ Q ⟨k0_pay68 v120 v271 v318, k0_pay69 v120 v272 v318 (tile X 1 1 1)⟩))
      ⊢ wpc c (k0_part14 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v120 v271 v272 v318) Q := by
  rw [k0_part14_eq_skeleton]; unfold k0_part14_skel
  simp only [Prog.lift, Prog.bind_op, Prog.bind_ret, Prog.pure_eq_ret]
  iintro ⟨⟨#HR, HO, Hc0, Ha0, Hc1, Ha1, Hs⟩, Hk⟩
  iapply (wp_load_tile c 2 2 1 1 1 rfl q X) $$ Hs; iintro Hs
  iapply (wp_wait_send m K c 0 _ rfl W 1 0) $$ [Hc0 HO Ha0]
  · isplitr; · iexact HR
    isplitl [Hc0]; · iexact Hc0
    isplitl [HO]; · iexact HO
    iexact Ha0
  iintro ⟨HO, Ha0, Hl0⟩
  iapply (wp_wait_send m K c 1 _ rfl (insert (SemLoc.dma (sendS 0), ()) W) 2 0) $$ [Hc1 HO Ha1]
  · isplitr; · iexact HR
    isplitl [Hc1]; · iexact Hc1
    isplitl [HO]; · iexact HO
    iexact Ha1
  iintro ⟨HO, Ha1, Hl1⟩
  iapply (wpc_ret c); iapply Hk
  isplitl [HO]; · iexact HO
  isplitl [Ha0]; · iexact Ha0
  isplitl [Hl0]; · iexact Hl0
  isplitl [Ha1]; · iexact Ha1
  isplitl [Hl1]; · iexact Hl1
  iexact Hs

set_option maxHeartbeats 1000000 in
/-- Part 15 of the kernel: its waits and loads, and the values it hands on. -/
theorem part15_spec (c : Dev nD) (K : Dev nD × Fin 7 → ℕ) (W : Waits sig Unit) (wo : S512x512.Idx → Elt F .bf16)
    (v291 : FVec F S512x1 .f32) (v292 : FVec F S512x64 .f32) (v303 : FVec F S512x1 .f32) (v304 : FVec F S512x64 .f32) (v315 : FVec F S512x1 .f32) (v316 : FVec F S512x64 .f32) (v327 : FVec F S512x1 .f32) (v328 : FVec F S512x64 .f32) {Q : _ → sProp 𝕄} :
    iprop((records m K
        ∗ owes (c : Thread nD τ) 0 W
        ∗ cred (tallyAt (sendCell 2 c) () N)
        ∗ atPos EX (sendCell 2 c) 0 ∅ 0
        ∗ ((c : Thread nD τ).loc cc0_stg2_0 ↦{fullShare} wo))
        ∗ ((owes (c : Thread nD τ) 0 (insert (SemLoc.dma (sendS 2), ()) W) ∗ atPos EX (sendCell 2 c) (0 + 1) ∅ 0 ∗ slotPts c 0 (lent 2) (spread (blkOf m c)) ∗ ((c : Thread nD τ).loc cc0_stg2_0 ↦{fullShare} wo))
            -∗ Q (k0_pay70 v291 v292 v303 v304 v315 v316 v327 v328 wo)))
      ⊢ wpc c (k0_part15 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v291 v292 v303 v304 v315 v316 v327 v328) Q := by
  rw [k0_part15_eq_skeleton]; unfold k0_part15_skel
  simp only [Prog.lift, Prog.bind_op, Prog.bind_ret, Prog.pure_eq_ret]
  iintro ⟨⟨#HR, HO, Hc2, Ha2, Hw⟩, Hk⟩
  iapply (wp_wait_send m K c 2 _ rfl W 3 0) $$ [Hc2 HO Ha2]
  · isplitr; · iexact HR
    isplitl [Hc2]; · iexact Hc2
    isplitl [HO]; · iexact HO
    iexact Ha2
  iintro ⟨HO, Ha2, Hl2⟩
  iapply (wp_load 𝒱₀ (c : Thread nD τ) none Set.univ (m := woM) (Finset.subset_univ _)) $$ Hw; iintro Hw
  rw [read_wo]
  iapply (wpc_ret c); iapply Hk
  isplitl [HO]; · iexact HO
  isplitl [Ha2]; · iexact Ha2
  isplitl [Hl2]; · iexact Hl2
  iexact Hw

end Cert.Attn

end
-- ==== Proof.PartsA.lean ====
/-
# The kernel's first parts: the signals, the packing of slot 0, the barrier, and the copies

Parts 1 to 5 of the kernel, each from what it uses to what it leaves and the values it hands on.
-/
module

public import proofs.«01_k».proof.Proof.PartsB

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- One batch and head of staged keys or values, as the kernel loads it to pack it. -/
def cutOf (kf : S2x128x2x64.Idx → Elt F .bf16) (b g : ℕ) : S1x128x1x64.Idx → Elt F .bf16 := fun y =>
  kf (fun | ⟨0, _⟩ => ⟨b % 2, Nat.mod_lt _ (by decide)⟩ | ⟨1, _⟩ => y 1 | ⟨2, _⟩ => ⟨g % 2, Nat.mod_lt _ (by decide)⟩ | ⟨3, _⟩ => y 3)

/-- The part of a batch and a head lies inside the argument. -/
abbrev cutInb (b g : ℕ) : Prop := ∀ i, (![b, 0, g, 0] : Fin 4 → ℕ) i + S1x128x1x64.size i ≤ S2x128x2x64.size i
/-- The part of a batch and a head as a rectangle. -/
abbrev cutR (b g : ℕ) (h : cutInb b g) : Rect S2x128x2x64 := Rect.unit (s := S2x128x2x64) ![b, 0, g, 0] S1x128x1x64.size h

omit [FloatOps F] in
/-- The part of a batch and a head, read through its rectangle. -/
theorem cut_emb (b g : ℕ) (h : cutInb b g) (kf : S2x128x2x64.Idx → Elt F .bf16) (y : S1x128x1x64.Idx) : kf ((cutR b g h).emb y) = cutOf kf b g y := by
  have h0 : b + 1 ≤ 2 := h 0
  have h2 : g + 1 ≤ 2 := h 2
  have e0 : (y 0).val = 0 := by have : (y 0).val < 1 := (y 0).isLt; omega
  have e2 : (y 2).val = 0 := by have : (y 2).val < 1 := (y 2).isLt; omega
  unfold cutOf
  refine congrArg kf (funext fun i => Fin.ext ?_)
  match i with
  | ⟨0, _⟩ => rw [Rect.emb_apply]; show b + 1 * (y 0).val = b % 2; rw [e0, Nat.mod_eq_of_lt h0]; rfl
  | ⟨1, _⟩ => rw [Rect.emb_apply]; exact (Nat.zero_add _).trans (Nat.one_mul _)
  | ⟨2, _⟩ => rw [Rect.emb_apply]; show g + 1 * (y 2).val = g % 2; rw [e2, Nat.mod_eq_of_lt h2]; rfl
  | ⟨3, _⟩ => rw [Rect.emb_apply]; exact (Nat.zero_add _).trans (Nat.one_mul _)

/-- A load of one batch and head of the staged keys. -/
theorem wp_load_key {α : Type} {Q : α → sProp 𝕄} (c : Dev nD) (b g : ℕ) {h : cutInb b g} {kf : S2x128x2x64.Idx → Elt F .bf16}
    {hl : keyM.view.LoadsAt (cutR b g h).toLoadRect}
    {kk : (S1x128x1x64.Idx → Elt F .bf16) → Prog (TpuEff nD τ sig (Elt F) Λ₀ .tc) α} :
    ((c : Thread nD τ).loc cc0_stg3_0 ↦{fullShare} kf)
      ⊢ iprop((((c : Thread nD τ).loc cc0_stg3_0 ↦{fullShare} kf) -∗ wpc c (kk (cutOf kf b g)) Q)
          -∗ wpc c (.op (.load keyM (cutR b g h).toLoadRect hl) kk) Q) := by
  iintro H Hk
  iapply (wp_load 𝒱₀ (c : Thread nD τ) none Set.univ (m := keyM) (r := (cutR b g h).toLoadRect) (f := kf) (Finset.subset_univ _)) $$ H
  iintro H
  rw [show keyM.view.readAt (Elt F) (cutR b g h).toLoadRect kf = cutOf kf b g from funext fun y => cut_emb b g h kf y]
  iapply Hk
  iexact H

/-- A load of one batch and head of the staged values. -/
theorem wp_load_val {α : Type} {Q : α → sProp 𝕄} (c : Dev nD) (b g : ℕ) {h : cutInb b g} {kf : S2x128x2x64.Idx → Elt F .bf16}
    {hl : valM.view.LoadsAt (cutR b g h).toLoadRect}
    {kk : (S1x128x1x64.Idx → Elt F .bf16) → Prog (TpuEff nD τ sig (Elt F) Λ₀ .tc) α} :
    ((c : Thread nD τ).loc cc0_stg4_0 ↦{fullShare} kf)
      ⊢ iprop((((c : Thread nD τ).loc cc0_stg4_0 ↦{fullShare} kf) -∗ wpc c (kk (cutOf kf b g)) Q)
          -∗ wpc c (.op (.load valM (cutR b g h).toLoadRect hl) kk) Q) := by
  iintro H Hk
  iapply (wp_load 𝒱₀ (c : Thread nD τ) none Set.univ (m := valM) (r := (cutR b g h).toLoadRect) (f := kf) (Finset.subset_univ _)) $$ H
  iintro H
  rw [show valM.view.readAt (Elt F) (cutR b g h).toLoadRect kf = cutOf kf b g from funext fun y => cut_emb b g h kf y]
  iapply Hk
  iexact H

omit [FloatOps F] in
/-- No store changes nothing. -/
theorem writes_nil (f : (cc0_scratch0 : Ref sig .tc).ty.Contents (Elt F)) : kvM.view.writes (Elt F) f [] = f := rfl

set_option maxHeartbeats 1000000 in
/-- Part 1: the three signals, each with the slot it frees, and the first tile of keys packed. -/
theorem part1_spec (c : Dev nD) (K : Dev nD × Fin 7 → ℕ) (W : Waits sig Unit) (kf : S2x128x2x64.Idx → Elt F .bf16) (vf : S2x128x2x64.Idx → Elt F .bf16)
    (f f1 f2 f3 : S4x2x2x2x128x64.Idx → Elt F .bf16) {Q : _ → sProp 𝕄} :
    iprop((records m K ∗ owes (c : Thread nD τ) (O₀ c) W ∗ (dutyTok EX (barCell (up 0 c)) 0 (Fin.rev 0) ∗ dutyTok EX (barCell (up 1 c)) 0 (Fin.rev 1) ∗ dutyTok EX (barCell (up 2 c)) 0 (Fin.rev 2))
          ∗ (slotPts c 0 fullShare f ∗ slotPts c 1 fullShare f1 ∗ slotPts c 2 fullShare f2 ∗ slotPts c 3 fullShare f3) ∗ ((c : Thread nD τ).loc cc0_stg3_0 ↦{fullShare} kf) ∗ ((c : Thread nD τ).loc cc0_stg4_0 ↦{fullShare} vf))
        ∗ ((owes (c : Thread nD τ) (X0 c) W ∗ slotPts c 0 fullShare (kvM.view.writes (Elt F) f [⟨tileR 0 0 0 0 inb_S4x2x2x2x128x64_S1x1x1x1x128x64_0_0_0_0_0_0, k0_pay1 (cutOf kf 0 0)⟩]) ∗ ((c : Thread nD τ).loc cc0_stg3_0 ↦{fullShare} kf) ∗ ((c : Thread nD τ).loc cc0_stg4_0 ↦{fullShare} vf))
            -∗ Q ⟨c, (Scalar.remsi (Scalar.divsi (Dev.word c) 1#32) 4#32), SemArray.scalar (sig.barrier 0 rfl), k0_pay2 (cutOf vf 0 0)⟩))
      ⊢ wpc c (k0_part1 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2) Q := by
  rw [k0_part1_eq_skeleton]; unfold k0_part1_skel
  simp only [semSignalWord, Prog.lift, Prog.bind_op, Prog.bind_ret, Prog.pure_eq_ret, wp_deviceId]
  iintro ⟨⟨#HR, HO, ⟨Ht0, Ht1, Ht2⟩, ⟨Hs, Hs1, Hs2, Hs3⟩, HK, HV⟩, Hk⟩
  iapply (wp_sig m K c 0 _ (dev1_eq c) _ (by decide) (B1 c) W f3) $$ [HO Ht0 Hs3]
  · isplitr; · iexact HR
    isplitl [HO]; · iexact HO
    isplitl [Ht0]; · iexact Ht0
    iexact Hs3
  iintro HO
  iapply (wp_sig m K c 1 _ (dev2_eq c) _ (by decide) (B2 c) W f2) $$ [HO Ht1 Hs2]
  · isplitr; · iexact HR
    isplitl [HO]; · iexact HO
    isplitl [Ht1]; · iexact Ht1
    iexact Hs2
  iintro HO
  iapply (wp_sig m K c 2 _ (dev3_eq c) _ (by decide) (X0 c) W f1) $$ [HO Ht2 Hs1]
  · isplitr; · iexact HR
    isplitl [HO]; · iexact HO
    isplitl [Ht2]; · iexact Ht2
    iexact Hs1
  iintro HO
  iapply (wp_load_key c 0 0) $$ HK; iintro HK
  iapply (wp_load_any c 0 0 0 0 rfl) $$ Hs; iintro Hs
  ihave Hs := (Entails.of_eq (congrArg (slotPts c 0 fullShare) (writes_nil f).symm)) $$ Hs
  iapply (wp_store_tile c 0 0 0 0 rfl) $$ Hs; iintro Hs
  iapply (wp_load_val c 0 0) $$ HV; iintro HV
  iapply (wpc_ret c); iapply Hk
  isplitl [HO]; · iexact HO
  isplitl [Hs]; · iexact Hs
  isplitl [HK]; · iexact HK
  iexact HV

set_option maxHeartbeats 1000000 in
/-- Part 2: four more tiles packed. -/
theorem part2_spec (c : Dev nD) (kf : S2x128x2x64.Idx → Elt F .bf16) (vf : S2x128x2x64.Idx → Elt F .bf16) (f : S4x2x2x2x128x64.Idx → Elt F .bf16) (Ls : List (View.Piece (Elt F) S4x2x2x2x128x64 .bf16)) (v22 : FVec F S128x64 .bf16) {Q : _ → sProp 𝕄} :
    iprop((slotPts c 0 fullShare (kvM.view.writes (Elt F) f Ls) ∗ ((c : Thread nD τ).loc cc0_stg3_0 ↦{fullShare} kf) ∗ ((c : Thread nD τ).loc cc0_stg4_0 ↦{fullShare} vf))
        ∗ ((slotPts c 0 fullShare (kvM.view.writes (Elt F) f (⟨tileR 0 0 1 0 inb_S4x2x2x2x128x64_S1x1x1x1x128x64_0_0_1_0_0_0, k0_pay6 (cutOf kf 1 0)⟩ ::
          ⟨tileR 0 1 0 1 inb_S4x2x2x2x128x64_S1x1x1x1x128x64_0_1_0_1_0_0, k0_pay5 (cutOf vf 0 1)⟩ ::
          ⟨tileR 0 0 0 1 inb_S4x2x2x2x128x64_S1x1x1x1x128x64_0_0_0_1_0_0, k0_pay4 (cutOf kf 0 1)⟩ ::
          ⟨tileR 0 1 0 0 inb_S4x2x2x2x128x64_S1x1x1x1x128x64_0_1_0_0_0_0, k0_pay3 v22⟩ ::
          Ls)) ∗ ((c : Thread nD τ).loc cc0_stg3_0 ↦{fullShare} kf) ∗ ((c : Thread nD τ).loc cc0_stg4_0 ↦{fullShare} vf))
            -∗ Q ⟨⟩))
      ⊢ wpc c (k0_part2 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v22) Q := by
  rw [k0_part2_eq_skeleton]; unfold k0_part2_skel
  simp only [Prog.lift, Prog.bind_op, Prog.bind_ret, Prog.pure_eq_ret]
  iintro ⟨⟨Hs, HK, HV⟩, Hk⟩
  iapply (wp_load_any c 0 1 0 0 rfl) $$ Hs; iintro Hs
  iapply (wp_store_tile c 0 1 0 0 rfl) $$ Hs; iintro Hs
  iapply (wp_load_key c 0 1) $$ HK; iintro HK
  iapply (wp_load_any c 0 0 0 1 rfl) $$ Hs; iintro Hs
  iapply (wp_store_tile c 0 0 0 1 rfl) $$ Hs; iintro Hs
  iapply (wp_load_val c 0 1) $$ HV; iintro HV
  iapply (wp_load_any c 0 1 0 1 rfl) $$ Hs; iintro Hs
  iapply (wp_store_tile c 0 1 0 1 rfl) $$ Hs; iintro Hs
  iapply (wp_load_key c 1 0) $$ HK; iintro HK
  iapply (wp_load_any c 0 0 1 0 rfl) $$ Hs; iintro Hs
  iapply (wp_store_tile c 0 0 1 0 rfl) $$ Hs; iintro Hs
  iapply (wpc_ret c); iapply Hk
  isplitl [Hs]; · iexact Hs
  isplitl [HK]; · iexact HK
  iexact HV

set_option maxHeartbeats 1000000 in
/-- Part 3: the last three tiles packed, and the wait for the three signals. -/
theorem part3_spec (c : Dev nD) (K : Dev nD × Fin 7 → ℕ) (W : Waits sig Unit) (kf : S2x128x2x64.Idx → Elt F .bf16) (vf : S2x128x2x64.Idx → Elt F .bf16) (f : S4x2x2x2x128x64.Idx → Elt F .bf16) (Ls : List (View.Piece (Elt F) S4x2x2x2x128x64 .bf16)) (v2 : BitVec 32) {Q : _ → sProp 𝕄} :
    iprop((records m K ∗ levAts L lv ∗ cred (tallyAt (barCell c) () 3) ∗ owes (c : Thread nD τ) (X0 c) W ∗ atPos EX (barCell c) 0 ∅ 0
          ∗ slotPts c 0 fullShare (kvM.view.writes (Elt F) f Ls) ∗ ((c : Thread nD τ).loc cc0_stg3_0 ↦{fullShare} kf) ∗ ((c : Thread nD τ).loc cc0_stg4_0 ↦{fullShare} vf))
        ∗ ((owes (c : Thread nD τ) (X0 c) (insert (SemLoc.reg barS, ()) W) ∗ atPos EX (barCell c) (0 + 1) ∅ 0 ∗ (barPay c 0 ∗ barPay c 1 ∗ barPay c 2)
            ∗ slotPts c 0 fullShare (kvM.view.writes (Elt F) f (⟨tileR 0 1 1 1 inb_S4x2x2x2x128x64_S1x1x1x1x128x64_0_1_1_1_0_0, k0_pay9 (cutOf vf 1 1)⟩ ::
          ⟨tileR 0 0 1 1 inb_S4x2x2x2x128x64_S1x1x1x1x128x64_0_0_1_1_0_0, k0_pay8 (cutOf kf 1 1)⟩ ::
          ⟨tileR 0 1 1 0 inb_S4x2x2x2x128x64_S1x1x1x1x128x64_0_1_1_0_0_0, k0_pay7 (cutOf vf 1 0)⟩ ::
          Ls)) ∗ ((c : Thread nD τ).loc cc0_stg3_0 ↦{fullShare} kf) ∗ ((c : Thread nD τ).loc cc0_stg4_0 ↦{fullShare} vf))
            -∗ Q (Scalar.remsi (Scalar.addi v2 1#32) 4#32)))
      ⊢ wpc c (k0_part3 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 v2 (SemArray.scalar (sig.barrier 0 rfl))) Q := by
  rw [k0_part3_eq_skeleton]; unfold k0_part3_skel
  simp only [semWaitWord, Prog.lift, Prog.bind_op, Prog.bind_ret, Prog.pure_eq_ret]
  iintro ⟨⟨#HR, #Hlev, Hc, HO, Hat, Hs, HK, HV⟩, Hk⟩
  iapply (wp_load_val c 1 0) $$ HV; iintro HV
  iapply (wp_load_any c 0 1 1 0 rfl) $$ Hs; iintro Hs
  iapply (wp_store_tile c 0 1 1 0 rfl) $$ Hs; iintro Hs
  iapply (wp_load_key c 1 1) $$ HK; iintro HK
  iapply (wp_load_any c 0 0 1 1 rfl) $$ Hs; iintro Hs
  iapply (wp_store_tile c 0 0 1 1 rfl) $$ Hs; iintro Hs
  iapply (wp_load_val c 1 1) $$ HV; iintro HV
  iapply (wp_load_any c 0 1 1 1 rfl) $$ Hs; iintro Hs
  iapply (wp_store_tile c 0 1 1 1 rfl) $$ Hs; iintro Hs
  iapply (wp_wait_bar m K c _ (by decide) W) $$ [Hc HO Hat]
  · isplitr; · iexact HR
    isplitr; · iexact Hlev
    isplitl [Hc]; · iexact Hc
    isplitl [HO]; · iexact HO
    iexact Hat
  iintro ⟨HO, Hat, Hp⟩
  iapply (wpc_ret c); iapply Hk
  isplitl [HO]; · iexact HO
  isplitl [Hat]; · iexact Hat
  isplitl [Hp]; · iexact Hp
  isplitl [Hs]; · iexact Hs
  isplitl [HK]; · iexact HK
  iexact HV

set_option maxHeartbeats 1000000 in
/-- Part 4: copies 0 and 1 begin. -/
theorem part4_spec (c : Dev nD) (K : Dev nD × Fin 7 → ℕ) (W : Waits sig Unit) (f1 f2 : S4x2x2x2x128x64.Idx → Elt F .bf16) (v2 : BitVec 32) {Q : _ → sProp 𝕄} :
    iprop((records m K ∗ owes (c : Thread nD τ) (X0 c) W
          ∗ (slotPts c 0 (lent 0) (spread (blkOf m c)) ∗ slotPts (up 0 c) (Fin.succ 0) fullShare f1 ∗ dutyTok EX (sendCell 0 c) 0 0 ∗ dutyTok EX (recvCell 0 (up 0 c)) 0 0)
          ∗ (slotPts c 0 (lent 1) (spread (blkOf m c)) ∗ slotPts (up 1 c) (Fin.succ 1) fullShare f2 ∗ dutyTok EX (sendCell 1 c) 0 0 ∗ dutyTok EX (recvCell 1 (up 1 c)) 0 0))
        ∗ ((owes (c : Thread nD τ) (X2 c) W ∗ cred (tallyAt (sendCell 0 c) () N) ∗ cred (tallyAt (sendCell 1 c) () N))
            -∗ Q ⟨Scalar.remsi (Scalar.addi v2 2#32) 4#32, Scalar.remsi (Scalar.addi v2 3#32) 4#32, Scalar.muli (Scalar.remsi (Scalar.addi v2 3#32) 4#32) 1#32⟩))
      ⊢ wpc c (k0_part4 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 c v2) Q := by
  rw [k0_part4_eq_skeleton]; unfold k0_part4_skel
  simp only [Prog.lift, Prog.bind_op, Prog.bind_ret, Prog.pure_eq_ret]
  iintro ⟨⟨#HR, HO, ⟨Hs0, Hd0, Ht0, Hu0⟩, Hs1, Hd1, Ht1, Hu1⟩, Hk⟩
  iapply (wp_copy m K c 0 _ (dev4_eq c) _ _ rfl rfl f1 (X1 c) W) $$ [HO Hs0 Hd0 Ht0 Hu0]
  · isplitr; · iexact HR
    isplitl [Hs0]; · iexact Hs0
    isplitl [Hd0]; · iexact Hd0
    isplitl [HO]; · iexact HO
    isplitl [Ht0]; · iexact Ht0
    iexact Hu0
  iintro ⟨Hc0, HO⟩
  iapply (wp_copy m K c 1 _ (dev5_eq c) _ _ rfl rfl f2 (X2 c) W) $$ [HO Hs1 Hd1 Ht1 Hu1]
  · isplitr; · iexact HR
    isplitl [Hs1]; · iexact Hs1
    isplitl [Hd1]; · iexact Hd1
    isplitl [HO]; · iexact HO
    isplitl [Ht1]; · iexact Ht1
    iexact Hu1
  iintro ⟨Hc1, HO⟩
  iapply (wpc_ret c); iapply Hk
  isplitl [HO]; · iexact HO
  isplitl [Hc0]; · iexact Hc0
  iexact Hc1

omit [FloatOps F] in
/-- A load of all activations reads all of them. -/
theorem read_xs (f : (cc0_stg0_0 : Ref sig .tc).ty.Contents (Elt F)) :
    xM.view.readAt (Elt F) (Rect.unit (s := S2x128x512) ![0, 0, 0] S2x128x512.size inb_S2x128x512_S2x128x512_0_0_0).toLoadRect f = f :=
  Memref.readAt_unit_zero (Elt F) cc0_stg0_0 hz3 _ f
omit [FloatOps F] in
/-- A load of all query weights reads all of them. -/
theorem read_wq (f : (cc0_stg1_0 : Ref sig .tc).ty.Contents (Elt F)) :
    wqM.view.readAt (Elt F) (Rect.unit (s := S512x512) ![0, 0] S512x512.size inb_S512x512_S512x512_0_0).toLoadRect f = f :=
  Memref.readAt_unit_zero (Elt F) cc0_stg1_0 hz2 _ f

set_option maxHeartbeats 1000000 in
/-- Part 5: copy 2 begins; the queries of the two batches and two key heads. -/
theorem part5_spec (c : Dev nD) (K : Dev nD × Fin 7 → ℕ) (W : Waits sig Unit) (f3 : S4x2x2x2x128x64.Idx → Elt F .bf16)
    (x : S2x128x512.Idx → Elt F .bf16) (wq : S512x512.Idx → Elt F .bf16) (v82 : BitVec 32) {Q : _ → sProp 𝕄} :
    iprop((records m K ∗ owes (c : Thread nD τ) (X2 c) W
          ∗ (slotPts c 0 (lent 2) (spread (blkOf m c)) ∗ slotPts (up 2 c) (Fin.succ 2) fullShare f3 ∗ dutyTok EX (sendCell 2 c) 0 0 ∗ dutyTok EX (recvCell 2 (up 2 c)) 0 0)
          ∗ ((c : Thread nD τ).loc cc0_stg0_0 ↦{fullShare} x) ∗ ((c : Thread nD τ).loc cc0_stg1_0 ↦{fullShare} wq))
        ∗ ((owes (c : Thread nD τ) 0 W ∗ cred (tallyAt (sendCell 2 c) () N)
            ∗ ((c : Thread nD τ).loc cc0_stg0_0 ↦{fullShare} x) ∗ ((c : Thread nD τ).loc cc0_stg1_0 ↦{fullShare} wq))
            -∗ Q ⟨k0_pay11 x wq, k0_pay12 x wq, k0_pay13 x wq, k0_pay14 x wq⟩))
      ⊢ wpc c (k0_part5 (F := F) xM (Memref.isWhole_whole _) wqM (Memref.isWhole_whole _) woM (Memref.isWhole_whole _) keyM (Memref.isWhole_whole _) valM (Memref.isWhole_whole _) outM (Memref.isWhole_whole _) kvM (Memref.isWhole_whole _) cc0_scratch1 cc0_scratch2 c v82) Q := by
  rw [k0_part5_eq_skeleton]; unfold k0_part5_skel
  simp only [Prog.lift, Prog.bind_op, Prog.bind_ret, Prog.pure_eq_ret]
  iintro ⟨⟨#HR, HO, ⟨Hs2, Hd2, Ht2, Hu2⟩, Hx, Hq⟩, Hk⟩
  ihave HO := (show (owes (c : Thread nD τ) (X2 c) W : sProp 𝕄) ⊢ owes (c : Thread nD τ) (0 + tallyAt (recvCell 2 (up 2 c)) () N) W from Entails.of_eq (by rw [zero_add]; rfl)) $$ HO
  iapply (wp_copy m K c 2 _ (dev6_eq c) _ _ rfl rfl f3 (0) W) $$ [HO Hs2 Hd2 Ht2 Hu2]
  · isplitr; · iexact HR
    isplitl [Hs2]; · iexact Hs2
    isplitl [Hd2]; · iexact Hd2
    isplitl [HO]; · iexact HO
    isplitl [Ht2]; · iexact Ht2
    iexact Hu2
  iintro ⟨Hc2, HO⟩
  iapply (wp_load 𝒱₀ (c : Thread nD τ) none Set.univ (m := xM) (Finset.subset_univ _)) $$ Hx; iintro Hx
  rw [read_xs]
  iapply (wp_load 𝒱₀ (c : Thread nD τ) none Set.univ (m := wqM) (Finset.subset_univ _)) $$ Hq; iintro Hq
  rw [read_wq]
  iapply (wpc_ret c); iapply Hk
  isplitl [HO]; · iexact HO
  isplitl [Hc2]; · iexact Hc2
  isplitl [Hx]; · iexact Hx
  iexact Hq

end Cert.Attn

end
-- ==== Proof.Body.lean ====
/-
# The kernel's body on one device

The contents each staging buffer and the four-slot buffer hold before and after the body, and the run of the body from
the one to the other.
-/
module

public import proofs.«01_k».proof.Proof.PartsA
public import proofs.«01_k».proof.Proof.Gen.KernelIdeal.Points

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The packed block -/

omit [FloatOps F] in
/-- The two reshapes of a packed tile keep its rows and features. -/
theorem packed_apply (v : S1x128x1x64.Idx → Elt F .bf16) (x : S1x1x1x1x128x64.Idx) :
    shapeCast S1x1x1x1x128x64 (shapeCast S128x64 v shapeCasts_S1x128x1x64_S128x64) shapeCasts_S128x64_S1x1x1x1x128x64 x
      = v (fun | ⟨0, _⟩ => (0 : Fin 1) | ⟨1, _⟩ => x 4 | ⟨2, _⟩ => (0 : Fin 1) | ⟨3, _⟩ => x 5) := by
  have e0 : (x 0).val = 0 := by have : (x 0).val < 1 := (x 0).isLt; omega
  have e1 : (x 1).val = 0 := by have : (x 1).val < 1 := (x 1).isLt; omega
  have e2 : (x 2).val = 0 := by have : (x 2).val < 1 := (x 2).isLt; omega
  have e3 : (x 3).val = 0 := by have : (x 3).val < 1 := (x 3).isLt; omega
  refine (shapeCast_apply _ _ x (fun | ⟨0, _⟩ => x 4 | ⟨1, _⟩ => x 5) ?_).trans (shapeCast_apply _ _ _ _ ?_)
  · rw [Shape.rowMajor_val_two, Shape.rowMajor_val_succ, Shape.rowMajor_val_five]
    show (x 4).val * 64 + (x 5).val = (x 0).val * _ + (((((x 1).val * 1 + (x 2).val) * 1 + (x 3).val) * 128 + (x 4).val) * 64 + (x 5).val)
    rw [e0, e1, e2, e3]; omega
  · rw [Shape.rowMajor_val_two, Shape.rowMajor_val_four]
    show ((0 * 128 + (x 4).val) * 1 + 0) * 64 + (x 5).val = (x 4).val * 64 + (x 5).val
    omega

/-- The eight stores of the packing, last first. -/
abbrev packing (kf vf : S2x128x2x64.Idx → Elt F .bf16) : List (View.Piece (Elt F) S4x2x2x2x128x64 .bf16) :=
  [⟨tileR 0 1 1 1 inb_S4x2x2x2x128x64_S1x1x1x1x128x64_0_1_1_1_0_0, k0_pay9 (cutOf vf 1 1)⟩,
    ⟨tileR 0 0 1 1 inb_S4x2x2x2x128x64_S1x1x1x1x128x64_0_0_1_1_0_0, k0_pay8 (cutOf kf 1 1)⟩,
    ⟨tileR 0 1 1 0 inb_S4x2x2x2x128x64_S1x1x1x1x128x64_0_1_1_0_0_0, k0_pay7 (cutOf vf 1 0)⟩,
    ⟨tileR 0 0 1 0 inb_S4x2x2x2x128x64_S1x1x1x1x128x64_0_0_1_0_0_0, k0_pay6 (cutOf kf 1 0)⟩,
    ⟨tileR 0 1 0 1 inb_S4x2x2x2x128x64_S1x1x1x1x128x64_0_1_0_1_0_0, k0_pay5 (cutOf vf 0 1)⟩,
    ⟨tileR 0 0 0 1 inb_S4x2x2x2x128x64_S1x1x1x1x128x64_0_0_0_1_0_0, k0_pay4 (cutOf kf 0 1)⟩,
    ⟨tileR 0 1 0 0 inb_S4x2x2x2x128x64_S1x1x1x1x128x64_0_1_0_0_0_0, k0_pay3 (k0_pay2 (cutOf vf 0 0))⟩,
    ⟨tileR 0 0 0 0 inb_S4x2x2x2x128x64_S1x1x1x1x128x64_0_0_0_0_0_0, k0_pay1 (cutOf kf 0 0)⟩]

/-- What the key store of a batch and head writes is the packed block there. -/
theorem piece_key (kf vf : S2x128x2x64.Idx → Elt F .bf16) (b g : ℕ) (h : tileInb 0 0 b g) (x : S1x1x1x1x128x64.Idx) :
    shapeCast S1x1x1x1x128x64 (shapeCast S128x64 (cutOf kf b g) shapeCasts_S1x128x1x64_S128x64) shapeCasts_S128x64_S1x1x1x1x128x64 x
      = spread (pack kf vf) ((tileR 0 0 b g h).emb x) := by
  have h1 : spread (pack kf vf) ((tileR 0 0 b g h).emb x) = tile (pack kf vf) 0 b g x := congrFun (read_tile 0 0 b g h (pack kf vf)) x
  rw [packed_apply, h1]
  unfold tile pack
  exact ((if_pos rfl).trans (congrArg kf (funext fun a => match a with | ⟨0, _⟩ => rfl | ⟨1, _⟩ => rfl | ⟨2, _⟩ => rfl | ⟨3, _⟩ => rfl))).symm

/-- What the value store of a batch and head writes is the packed block there. -/
theorem piece_val (kf vf : S2x128x2x64.Idx → Elt F .bf16) (b g : ℕ) (h : tileInb 0 1 b g) (x : S1x1x1x1x128x64.Idx) :
    shapeCast S1x1x1x1x128x64 (shapeCast S128x64 (cutOf vf b g) shapeCasts_S1x128x1x64_S128x64) shapeCasts_S128x64_S1x1x1x1x128x64 x
      = spread (pack kf vf) ((tileR 0 1 b g h).emb x) := by
  have h1 : spread (pack kf vf) ((tileR 0 1 b g h).emb x) = tile (pack kf vf) 1 b g x := congrFun (read_tile 0 1 b g h (pack kf vf)) x
  rw [packed_apply, h1]
  unfold tile pack
  exact ((if_neg Nat.one_ne_zero).trans (congrArg vf (funext fun a => match a with | ⟨0, _⟩ => rfl | ⟨1, _⟩ => rfl | ⟨2, _⟩ => rfl | ⟨3, _⟩ => rfl))).symm

/-- Each of the eight stores writes the packed block on its own tile. -/
theorem packing_piece (kf vf : S2x128x2x64.Idx → Elt F .bf16) :
    ∀ p ∈ packing kf vf, ∀ x : p.1.shape.Idx, p.2 x = spread (pack kf vf) (p.1.emb x) := by
  unfold packing
  intro p hp
  simp only [List.mem_cons, List.not_mem_nil, or_false] at hp
  rcases hp with rfl | rfl | rfl | rfl | rfl | rfl | rfl | rfl
  · exact fun x => piece_val kf vf 1 1 inb_S4x2x2x2x128x64_S1x1x1x1x128x64_0_1_1_1_0_0 x
  · exact fun x => piece_key kf vf 1 1 inb_S4x2x2x2x128x64_S1x1x1x1x128x64_0_0_1_1_0_0 x
  · exact fun x => piece_val kf vf 1 0 inb_S4x2x2x2x128x64_S1x1x1x1x128x64_0_1_1_0_0_0 x
  · exact fun x => piece_key kf vf 1 0 inb_S4x2x2x2x128x64_S1x1x1x1x128x64_0_0_1_0_0_0 x
  · exact fun x => piece_val kf vf 0 1 inb_S4x2x2x2x128x64_S1x1x1x1x128x64_0_1_0_1_0_0 x
  · exact fun x => piece_key kf vf 0 1 inb_S4x2x2x2x128x64_S1x1x1x1x128x64_0_0_0_1_0_0 x
  · exact fun x => piece_val kf vf 0 0 inb_S4x2x2x2x128x64_S1x1x1x1x128x64_0_1_0_0_0_0 x
  · exact fun x => piece_key kf vf 0 0 inb_S4x2x2x2x128x64_S1x1x1x1x128x64_0_0_0_0_0_0 x

omit [FloatOps F] in
/-- An element of slot 0 whose coordinates are those of a tile lies in it. -/
theorem mem_tileR (a b g : ℕ) (h : tileInb 0 a b g) (y : S4x2x2x2x128x64.Idx) (h0 : (y 0).val = 0) (h1 : (y 1).val = a) (h2 : (y 2).val = b) (h3 : (y 3).val = g) :
    y ∈ (tileR 0 a b g h).set := by
  rw [Rect.mem_set_unit]
  intro i
  match i with
  | ⟨0, _⟩ => exact ⟨h0.ge, by show (y 0).val < 0 + 1; omega⟩
  | ⟨1, _⟩ => exact ⟨h1.ge, by show (y 1).val < a + 1; omega⟩
  | ⟨2, _⟩ => exact ⟨h2.ge, by show (y 2).val < b + 1; omega⟩
  | ⟨3, _⟩ => exact ⟨h3.ge, by show (y 3).val < g + 1; omega⟩
  | ⟨4, _⟩ => exact ⟨Nat.zero_le _, by have : (y 4).val < 128 := (y 4).isLt; show (y 4).val < 0 + 128; omega⟩
  | ⟨5, _⟩ => exact ⟨Nat.zero_le _, by have : (y 5).val < 64 := (y 5).isLt; show (y 5).val < 0 + 64; omega⟩

/-- The eight tiles cover slot 0. -/
theorem packing_covers (kf vf : S2x128x2x64.Idx → Elt F .bf16) (y : S4x2x2x2x128x64.Idx) (hy : y ∈ slotSet 0) :
    ∃ p ∈ packing kf vf, y ∈ p.1.set := by
  have h0 : (y 0).val = 0 := (mem_slotSet 0 y).mp hy
  have h1 : (y 1).val < 2 := (y 1).isLt
  have h2 : (y 2).val < 2 := (y 2).isLt
  have h3 : (y 3).val < 2 := (y 3).isLt
  have c1 : (y 1).val = 0 ∨ (y 1).val = 1 := by omega
  have c2 : (y 2).val = 0 ∨ (y 2).val = 1 := by omega
  have c3 : (y 3).val = 0 ∨ (y 3).val = 1 := by omega
  rcases c1 with c1 | c1 <;> rcases c2 with c2 | c2 <;> rcases c3 with c3 | c3
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_self ..)))))))), mem_tileR 0 0 0 inb_S4x2x2x2x128x64_S1x1x1x1x128x64_0_0_0_0_0_0 y h0 c1 c2 c3⟩
  · exact ⟨_, (List.mem_cons_of_mem _ (List.mem_cons_of_mem _ (List.mem_cons_of_mem _ (List.mem_cons_of_mem _ (List.mem_cons_of_mem _ (List.mem_cons_self ..)))))), mem_tileR 0 0 1 inb_S4x2x2x2x128x64_S1x1x1x1x128x64_0_0_0_1_0_0 y h0 c1 c2 c3⟩
  · exact ⟨_, (List.mem_cons_of_mem _ (List.mem_cons_of_mem _ (List.mem_cons_of_mem _ (List.mem_cons_self ..)))), mem_tileR 0 1 0 inb_S4x2x2x2x128x64_S1x1x1x1x128x64_0_0_1_0_0_0 y h0 c1 c2 c3⟩
  · exact ⟨_, (List.mem_cons_of_mem _ (List.mem_cons_self ..)), mem_tileR 0 1 1 inb_S4x2x2x2x128x64_S1x1x1x1x128x64_0_0_1_1_0_0 y h0 c1 c2 c3⟩
  · exact ⟨_, (List.mem_cons_of_mem _ (List.mem_cons_of_mem _ (List.mem_cons_of_mem _ (List.mem_cons_of_mem _ (List.mem_cons_of_mem _ (List.mem_cons_of_mem _ (List.mem_cons_self ..))))))), mem_tileR 1 0 0 inb_S4x2x2x2x128x64_S1x1x1x1x128x64_0_1_0_0_0_0 y h0 c1 c2 c3⟩
  · exact ⟨_, (List.mem_cons_of_mem _ (List.mem_cons_of_mem _ (List.mem_cons_of_mem _ (List.mem_cons_of_mem _ (List.mem_cons_self ..))))), mem_tileR 1 0 1 inb_S4x2x2x2x128x64_S1x1x1x1x128x64_0_1_0_1_0_0 y h0 c1 c2 c3⟩
  · exact ⟨_, (List.mem_cons_of_mem _ (List.mem_cons_of_mem _ (List.mem_cons_self ..))), mem_tileR 1 1 0 inb_S4x2x2x2x128x64_S1x1x1x1x128x64_0_1_1_0_0_0 y h0 c1 c2 c3⟩
  · exact ⟨_, (List.mem_cons_self ..), mem_tileR 1 1 1 inb_S4x2x2x2x128x64_S1x1x1x1x128x64_0_1_1_1_0_0 y h0 c1 c2 c3⟩

omit [FloatOps F] in
/-- Stores which cover slot 0 and each write a part of `G` leave `G` in it. -/
theorem slot_written (c : Dev nD) (f G : S4x2x2x2x128x64.Idx → Elt F .bf16) (Ls : List (View.Piece (Elt F) S4x2x2x2x128x64 .bf16))
    (hG : ∀ p ∈ Ls, ∀ x : p.1.shape.Idx, p.2 x = G (p.1.emb x)) (hc : ∀ y ∈ slotSet 0, ∃ p ∈ Ls, y ∈ p.1.set) :
    (slotPts c 0 fullShare ((View.whole cc0_scratch0).writes (Elt F) f Ls) : sProp 𝕄) = slotPts c 0 fullShare G := by
  unfold slotPts
  refine pointsTo_congr fun y hy => ?_
  have h := View.read_writes_apply_of_pieces (v := View.whole cc0_scratch0) f G Ls hG y (hc y hy)
  rw [View.read_whole] at h
  exact h

/-- After the eight stores slot 0 holds the packed block. -/
theorem slot_packed (c : Dev nD) (f : S4x2x2x2x128x64.Idx → Elt F .bf16) (kf vf : S2x128x2x64.Idx → Elt F .bf16) :
    (slotPts c 0 fullShare ((View.whole cc0_scratch0).writes (Elt F) f (packing kf vf)) : sProp 𝕄) = slotPts c 0 fullShare (spread (pack kf vf)) :=
  slot_written c f _ _ (packing_piece kf vf) (packing_covers kf vf)

/-! ## The four slots of the buffer, and the four shares of slot 0 -/

/-- Device `c`'s four-slot buffer. -/
def scrPts (c : Dev nD) (f : S4x2x2x2x128x64.Idx → Elt F .bf16) : sProp 𝕄 := (c : Thread nD τ).loc cc0_scratch0 ↦{fullShare} f

/-- Different slots share no element. -/
theorem slots_disjoint (i j : Fin 4) (h : i ≠ j) : Disjoint (slotSet i) (slotSet j) :=
  Finset.disjoint_left.mpr fun y hi hj => h (Fin.ext (((mem_slotSet i y).mp hi).symm.trans ((mem_slotSet j y).mp hj)))
/-- The four slots are the whole buffer. -/
theorem slots_cover : (Finset.univ : Finset (Fin 4)).biUnion slotSet = Finset.univ :=
  Finset.eq_univ_iff_forall.mpr fun y => Finset.mem_biUnion.mpr ⟨y 0, Finset.mem_univ _, (mem_slotSet (y 0) y).mpr rfl⟩

omit [FloatOps F] in
/-- A product over the four slots, written out. -/
theorem four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- Holding the buffer is holding its four slots. -/
theorem scr_split (c : Dev nD) (f : S4x2x2x2x128x64.Idx → Elt F .bf16) :
    (scrPts c f : sProp 𝕄) = iprop(slotPts c 0 fullShare f ∗ slotPts c 1 fullShare f ∗ slotPts c 2 fullShare f ∗ slotPts c 3 fullShare f) := by
  have h := pointsTo_biUnion (Ix := Unit) (Name := ℕ) (U := UU) (Lvl := ℕ) (ℓ := (c : Thread nD τ).loc cc0_scratch0) (q := fullShare) (f := f) Finset.univ slotSet
    (fun i _ j _ h => slots_disjoint i j h)
  rw [slots_cover, four] at h
  exact h

omit [FloatOps F] in
/-- What is known of a content may be forgotten. -/
theorem forget {α : Type} (P : α → Prop) (G : α → sProp 𝕄) : (iprop(∃ g, ⌜P g⌝ ∗ G g) : sProp 𝕄) ⊢ iprop(∃ g, G g) := by
  iintro ⟨%g, -, H⟩
  iexists g
  iexact H

omit [FloatOps F] in
/-- Four slots at any contents make up the buffer. -/
theorem scr_join (c : Dev nD) (f0 f1 f2 f3 : S4x2x2x2x128x64.Idx → Elt F .bf16) :
    iprop(slotPts c 0 fullShare f0 ∗ slotPts c 1 fullShare f1 ∗ slotPts c 2 fullShare f2 ∗ slotPts c 3 fullShare f3) ⊢ (iprop(∃ f, scrPts c f) : sProp 𝕄) := by
  have h := pointsTo_biUnion_join (Ix := Unit) (Name := ℕ) (U := UU) (Lvl := ℕ) (ℓ := (c : Thread nD τ).loc cc0_scratch0) (q := fullShare) Finset.univ slotSet
    (fun | 0 => f0 | 1 => f1 | 2 => f2 | 3 => f3 : Fin 4 → S4x2x2x2x128x64.Idx → Elt F .bf16) f0 (fun i _ j _ h => slots_disjoint i j h)
  rw [slots_cover, four] at h
  exact BI.Entails.trans h (forget _ _)

omit [FloatOps F] in
/-- A share of slot 0 is its two halves. -/
theorem halve (c : Dev nD) (q : PosShare TreeShare) (f : S4x2x2x2x128x64.Idx → Elt F .bf16) :
    (slotPts c 0 q f : sProp 𝕄) ⊣⊢ iprop(slotPts c 0 q.left f ∗ slotPts c 0 q.right f) := by
  unfold slotPts
  exact pointsTo_share (PosShare.mem_left_op_right q)

omit [FloatOps F] in
/-- Slot 0 is parted into three shares for the copies and one that is kept. -/
theorem lend (c : Dev nD) (f : S4x2x2x2x128x64.Idx → Elt F .bf16) :
    (slotPts c 0 fullShare f : sProp 𝕄) ⊢ iprop(slotPts c 0 (lent 0) f ∗ slotPts c 0 (lent 1) f ∗ slotPts c 0 (lent 2) f ∗ slotPts c 0 kept f) := by
  iintro H
  ihave H := (halve c fullShare f).1 $$ H
  icases H with ⟨Hl, Hr⟩
  ihave Hl := (halve c fullShare.left f).1 $$ Hl
  ihave Hr := (halve c fullShare.right f).1 $$ Hr
  icases Hl with ⟨H0, H1⟩
  icases Hr with ⟨H2, H3⟩
  isplitl [H0]; · iexact H0
  isplitl [H1]; · iexact H1
  isplitl [H2]; · iexact H2
  iexact H3

omit [FloatOps F] in
/-- The four shares make up slot 0 again. -/
theorem repaid (c : Dev nD) (f : S4x2x2x2x128x64.Idx → Elt F .bf16) :
    iprop(slotPts c 0 (lent 0) f ∗ slotPts c 0 (lent 1) f ∗ slotPts c 0 (lent 2) f ∗ slotPts c 0 kept f) ⊢ (slotPts c 0 fullShare f : sProp 𝕄) := by
  iintro ⟨H0, H1, H2, H3⟩
  iapply (halve c fullShare f).2
  isplitl [H0 H1]
  · iapply (halve c fullShare.left f).2
    isplitl [H0]; · iexact H0
    iexact H1
  · iapply (halve c fullShare.right f).2
    isplitl [H2]; · iexact H2
    iexact H3

/-! ## What the body computes -/

/-- The attention of one device's rows over four blocks, in the kernel's operations: `X0` its own block, `X1`, `X2`, `X3`
    the blocks of the devices one, two and three places before it. -/
def outOf (x : S2x128x512.Idx → Elt F .bf16) (wq wo : S512x512.Idx → Elt F .bf16) (X0 X1 X2 X3 : Blk F) : S2x128x512.Idx → Elt F .f32 :=
  let q0 := k0_pay11 x wq
  let q1 := k0_pay12 x wq
  let q2 := k0_pay13 x wq
  let q3 := k0_pay14 x wq
  let l0 := k0_pay16 q0 (tile X0 0 0 0)
  let a0 := k0_pay17 q0 (tile X0 0 0 0) (tile X0 1 0 0)
  let l1 := k0_pay19 q1 (tile X0 0 0 1)
  let a1 := k0_pay20 q1 (tile X0 0 0 1) (tile X0 1 0 1)
  let t := k0_pay21 (tile X0 0 1 0)
  let l2 := k0_pay23 q2 t
  let a2 := k0_pay24 q2 t (tile X0 1 1 0)
  let l3 := k0_pay26 q3 (tile X0 0 1 1)
  let a3 := k0_pay27 q3 (tile X0 0 1 1) (tile X0 1 1 1)
  let a0' := k0_pay30 q0 a0 (tile X1 0 0 0) (tile X1 1 0 0)
  let l0' := k0_pay29 q0 l0 (tile X1 0 0 0)
  let a1' := k0_pay33 q1 a1 (tile X1 0 0 1) (tile X1 1 0 1)
  let l1' := k0_pay32 q1 l1 (tile X1 0 0 1)
  let a2' := k0_pay36 q2 a2 (tile X1 0 1 0) (tile X1 1 1 0)
  let l2' := k0_pay35 q2 l2 (tile X1 0 1 0)
  let a3' := k0_pay39 q3 a3 (tile X1 0 1 1) (tile X1 1 1 1)
  let l3' := k0_pay38 q3 l3 (tile X1 0 1 1)
  let a0'' := k0_pay42 q0 a0' (tile X3 0 0 0) (tile X3 1 0 0)
  let l0'' := k0_pay41 q0 l0' (tile X3 0 0 0)
  let u := k0_pay43 (tile X3 1 0 1)
  let s := k0_pay44 q1 (tile X3 0 0 1)
  let a1'' := k0_pay47 a1' u s
  let l1'' := k0_pay46 l1' s
  let a2'' := k0_pay50 q2 a2' (tile X3 0 1 0) (tile X3 1 1 0)
  let l2'' := k0_pay49 q2 l2' (tile X3 0 1 0)
  let w := k0_pay51 (tile X3 1 1 1)
  let r := k0_pay53 q3 (tile X3 0 1 1)
  let p := k0_pay54 q3 (tile X3 0 1 1)
  let l3'' := k0_pay55 l3' r
  let a3'' := k0_pay56 a3' w p (constant S512x64 .f32 0x00000000#32)
  let l0f := k0_pay58 q0 l0'' (tile X2 0 0 0)
  let a0f := k0_pay59 q0 a0'' (tile X2 0 0 0) (tile X2 1 0 0)
  let l1f := k0_pay61 q1 l1'' (tile X2 0 0 1)
  let a1f := k0_pay62 q1 a1'' (tile X2 0 0 1) (tile X2 1 0 1)
  let l2f := k0_pay64 q2 l2'' (tile X2 0 1 0)
  let a2f := k0_pay65 q2 a2'' (tile X2 0 1 0) (tile X2 1 1 0)
  let z := k0_pay66 (tile X2 0 1 1)
  let l3f := k0_pay68 q3 l3'' z
  let a3f := k0_pay69 q3 a3'' z (tile X2 1 1 1)
  k0_pay70 l0f a0f l1f a1f l2f a2f l3f a3f wo

/-- Device `c`'s activations and weights as staged. -/
def xAt (c : Dev nD) : S2x128x512.Idx → Elt F .bf16 := (win0_0.blk (0 : Fin 1)).view.read (Elt F) (m ((c : Thread nD τ).loc main_arg0))
/-- The query weights on device `c`. -/
def wqAt (c : Dev nD) : S512x512.Idx → Elt F .bf16 := (win0_1.blk (0 : Fin 1)).view.read (Elt F) (m ((c : Thread nD τ).loc main_arg1))
/-- The output weights on device `c`. -/
def woAt (c : Dev nD) : S512x512.Idx → Elt F .bf16 := (win0_2.blk (0 : Fin 1)).view.read (Elt F) (m ((c : Thread nD τ).loc main_arg2))

/-- What device `c`'s run leaves in the output's staging buffer. -/
def outAt (c : Dev nD) : S2x128x512.Idx → Elt F .f32 :=
  outOf (xAt m c) (wqAt m c) (woAt m c) (blkOf m c) (blkOf m (dn 0 c)) (blkOf m (dn 1 c)) (blkOf m (dn 2 c))

/-! ## The pipeline's proof data -/

/-- Before the body: what the launch hands over, and the four-slot buffer at some contents. -/
def Φ₀ (c : Dev nD) : sProp 𝕄 := iprop(start m c ∗ ∃ f, scrPts c f)
/-- After the body: the four-slot buffer at some contents and the seven cells at zero. -/
def Φ₁ (c : Dev nD) : sProp 𝕄 := iprop((∃ f, scrPts c f) ∗ semVal (barCell c) 0
  ∗ (semVal (sendCell 0 c) 0 ∗ semVal (sendCell 1 c) 0 ∗ semVal (sendCell 2 c) 0) ∗ semVal (recvCell 0 c) 0 ∗ semVal (recvCell 1 c) 0 ∗ semVal (recvCell 2 c) 0)

/-- The pipeline's proof data: every input block stays, the output block becomes `outAt`. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wqAt m c
    | ⟨2, _⟩ => woAt m c
    | ⟨3, _⟩ => keyAt m c
    | ⟨4, _⟩ => valAt m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- Owning a whole buffer is holding it at that content. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

/-- What the body ends with. -/
def bodyPost (c : Dev nD) : sProp 𝕄 :=
  iprop(Φ₁ c ∗ (dats m 0 c).owesAt () t0_0.succ ∗ stg c cc0_stg0_0 (xAt m c) ∗ stg c cc0_stg1_0 (wqAt m c) ∗ stg c cc0_stg2_0 (woAt m c)
    ∗ stg c cc0_stg3_0 (keyAt m c) ∗ stg c cc0_stg4_0 (valAt m c) ∗ stg c cc0_stg5_0 (outAt m c))

/-- The weakest precondition of a sequence is that of its first part, ending in that of the rest. -/
theorem wpc_bind (c : Dev nD) {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := by
  show _ ⊢ wp frame (wpE (defs₀ (F := F)) 𝒱₀ (c : Thread nD τ) none) Set.univ (p >>= k) Q
  rw [wp_bind]

omit [FloatOps F] in
/-- A cell whose one round is over gives back its counter at zero. -/
theorem close (c : Dev nD) (K : Dev nD × Fin 7 → ℕ) (ix : Fin 7) :
    iprop(records m K ∗ atPos EX (cell (c, ix)) (0 + 1) ∅ 0) ⊢ (|={Set.univ}=> semVal (cell (c, ix)) 0 : sProp 𝕄) := by
  iintro ⟨#HR, Hat⟩
  imod (Rounds.cell_close EX (exch m) (Set.mem_univ (K (c, ix))) (fun h => h) (R := 0 + 1) (duties_later m (cell (c, ix)))) $$ [Hat] with Hz
  · isplitr; · iapply (record_inv m K (c, ix)); iexact HR
    iexact Hat
  imodintro
  iexact Hz

/-- The whole of the result as a rectangle. -/
abbrev outR : Rect S2x128x512 := Rect.unit (s := S2x128x512) ![0, 0, 0] S2x128x512.size inb_S2x128x512_S2x128x512_0_0_0
omit [FloatOps F] in
/-- A store of the whole result leaves what was stored. -/
theorem write_out (f w : (cc0_stg5_0 : Ref sig .tc).ty.Contents (Elt F)) :
    ((outM : Memref sig .tc .vmem S2x128x512 .f32).access outR : View sig .tc _ _ _).write (Elt F) f w Finset.univ = w :=
  Memref.write_access_unit_zero_univ (Elt F) cc0_stg5_0 hz3 _ f w

set_option maxHeartbeats 4000000 in
set_option maxRecDepth 65536 in
/-- The body, part by part. -/
theorem sound_body (c : Dev nD) (Kt : PUnit → sProp 𝕄) :
    iprop(bodyPre m c ∗ (bodyPost m c -∗ Kt ⟨⟩))
      ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt := by
  rw [cc0_body_eq_skeleton]; unfold cc0_body_skel
  unfold bodyPre Φ₀ start posns payToks payOne credits
  iintro ⟨⟨⟨⟨⟨%K, #HR, ⟨HaB, ⟨HaS0, HaS1, HaS2⟩, HaV0, HaV1, HaV2⟩, ⟨⟨Hb0, Ht0, Hu0⟩, ⟨Hb1, Ht1, Hu1⟩, Hb2, Ht2, Hu2⟩⟩, ⟨HcB, HcV0, HcV1, HcV2⟩, #Hlev⟩, ⟨%f, Hscr⟩⟩,
    Ho, ⟨%e0, %g0, %hg0, Hx⟩, ⟨%e1, %g1, %hg1, Hq⟩, ⟨%e2, %g2, %hg2, Hw⟩, ⟨%e3, %g3, %hg3, HK⟩, ⟨%e4, %g4, %hg4, HV⟩, ⟨%e5, %g5, %hg5, Hout⟩⟩, Hk⟩
  have hx : g0 = xAt m c := by rw [hg0]; unfold Dat.before; rw [if_pos (fetch0_0 t0_0)]; rfl
  have hq : g1 = wqAt m c := by rw [hg1]; unfold Dat.before; rw [if_pos (fetch0_1 t0_0)]; rfl
  have hw : g2 = woAt m c := by rw [hg2]; unfold Dat.before; rw [if_pos (fetch0_2 t0_0)]; rfl
  have hk : g3 = keyAt m c := by rw [hg3]; unfold Dat.before; rw [if_pos (fetch0_3 t0_0)]; rfl
  have hv : g4 = valAt m c := by rw [hg4]; unfold Dat.before; rw [if_pos (fetch0_4 t0_0)]; rfl
  subst hx hq hw hk hv
  clear hg0 hg1 hg2 hg3 hg4
  unfold Dat.owesAt Pipeline.owesWithin
  icases Ho with ⟨%W, %hW, HO⟩
  rw [show (dats m 0 c).owed t0_0.castSucc = O₀ c from rfl]
  ihave Hscr := (Entails.of_eq (scr_split c f)) $$ Hscr
  -- the signals, the packing, the barrier
  iapply (wpc_bind c)
  iapply (part1_spec m c K W (keyAt m c) (valAt m c) f f f f)
  isplitl [HO Hb0 Hb1 Hb2 Hscr HK HV]
  · isplitr; · iexact HR
    isplitl [HO]; · iexact HO
    isplitl [Hb0 Hb1 Hb2]
    · isplitl [Hb0]; · iexact Hb0
      isplitl [Hb1]; · iexact Hb1
      iexact Hb2
    isplitl [Hscr]; · iexact Hscr
    isplitl [HK]; · iexact HK
    iexact HV
  iintro ⟨HO, Hs, HK, HV⟩
  dsimp only
  iapply (wpc_bind c)
  iapply (part2_spec c (keyAt m c) (valAt m c) f)
  isplitl [Hs HK HV]
  · isplitl [Hs]; · iexact Hs
    isplitl [HK]; · iexact HK
    iexact HV
  iintro ⟨Hs, HK, HV⟩
  dsimp only
  iapply (wpc_bind c)
  iapply (part3_spec m c K W (keyAt m c) (valAt m c) f)
  isplitl [HcB HO HaB Hs HK HV]
  · isplitr; · iexact HR
    isplitr; · iexact Hlev
    isplitl [HcB]; · iexact HcB
    isplitl [HO]; · iexact HO
    isplitl [HaB]; · iexact HaB
    isplitl [Hs]; · iexact Hs
    isplitl [HK]; · iexact HK
    iexact HV
  iintro ⟨HO, HaB, ⟨Hp0, Hp1, Hp2⟩, Hs, HK, HV⟩
  dsimp only
  ihave Hs := (show _ ⊢ slotPts c 0 fullShare (spread (blkOf m c)) from Entails.of_eq (slot_packed c f (keyAt m c) (valAt m c))) $$ Hs
  ihave Hs := (lend c (spread (blkOf m c))) $$ Hs
  icases Hs with ⟨Hs0, Hs1, Hs2, Hs⟩
  unfold barPay
  icases Hp0 with ⟨%f1, Hd0⟩
  icases Hp1 with ⟨%f2, Hd1⟩
  icases Hp2 with ⟨%f3, Hd2⟩
  -- the copies
  iapply (wpc_bind c)
  iapply (part4_spec m c K _ f1 f2)
  isplitl [HO Hs0 Hs1 Hd0 Hd1 Ht0 Ht1 Hu0 Hu1]
  · isplitr; · iexact HR
    isplitl [HO]; · iexact HO
    isplitl [Hs0 Hd0 Ht0 Hu0]
    · isplitl [Hs0]; · iexact Hs0
      isplitl [Hd0]; · iexact Hd0
      isplitl [Ht0]; · iexact Ht0
      iexact Hu0
    isplitl [Hs1]; · iexact Hs1
    isplitl [Hd1]; · iexact Hd1
    isplitl [Ht1]; · iexact Ht1
    iexact Hu1
  iintro ⟨HO, HcS0, HcS1⟩
  dsimp only
  iapply (wpc_bind c)
  iapply (part5_spec m c K _ f3 (xAt m c) (wqAt m c))
  isplitl [HO Hs2 Hd2 Ht2 Hu2 Hx Hq]
  · isplitr; · iexact HR
    isplitl [HO]; · iexact HO
    isplitl [Hs2 Hd2 Ht2 Hu2]
    · isplitl [Hs2]; · iexact Hs2
      isplitl [Hd2]; · iexact Hd2
      isplitl [Ht2]; · iexact Ht2
      iexact Hu2
    isplitl [Hx]; · iexact Hx
    iexact Hq
  iintro ⟨HO, HcS2, Hx, Hq⟩
  dsimp only
  -- the device's own block
  iapply (wpc_bind c)
  iapply (part6_spec c kept (blkOf m c))
  isplitl [Hs]; · iexact Hs
  iintro Hs
  dsimp only
  iapply (wpc_bind c)
  iapply (part7_spec c kept (blkOf m c))
  isplitl [Hs]; · iexact Hs
  iintro Hs
  dsimp only
  -- the block of the device one place before
  iapply (wpc_bind c)
  iapply (part8_spec m c K)
  isplitl [HO HcV0 HaV0]
  · isplitr; · iexact HR
    isplitl [HO]; · iexact HO
    isplitl [HcV0]; · iexact HcV0
    iexact HaV0
  iintro ⟨HO, HaV0, Hr1⟩
  dsimp only
  iapply (wpc_bind c)
  iapply (part9_spec c fullShare (blkOf m (dn 0 c)))
  isplitl [Hr1]; · iexact Hr1
  iintro Hr1
  dsimp only
  -- three places before
  iapply (wpc_bind c)
  iapply (part10_spec m c K)
  isplitl [HO HcV2 HaV2]
  · isplitr; · iexact HR
    isplitl [HO]; · iexact HO
    isplitl [HcV2]; · iexact HcV2
    iexact HaV2
  iintro ⟨HO, HaV2, Hr3⟩
  dsimp only
  iapply (wpc_bind c)
  iapply (part11_spec c fullShare (blkOf m (dn 2 c)))
  isplitl [Hr3]; · iexact Hr3
  iintro Hr3
  dsimp only
  -- two places before
  iapply (wpc_bind c)
  iapply (part12_spec m c K)
  isplitl [HO HcV1 HaV1]
  · isplitr; · iexact HR
    isplitl [HO]; · iexact HO
    isplitl [HcV1]; · iexact HcV1
    iexact HaV1
  iintro ⟨HO, HaV1, Hr2⟩
  dsimp only
  iapply (wpc_bind c)
  iapply (part13_spec c fullShare (blkOf m (dn 1 c)))
  isplitl [Hr2]; · iexact Hr2
  iintro Hr2
  dsimp only
  -- the ends of the copies
  iapply (wpc_bind c)
  iapply (part14_spec m c K _ fullShare (blkOf m (dn 1 c)))
  isplitl [HO HcS0 HaS0 HcS1 HaS1 Hr2]
  · isplitr; · iexact HR
    isplitl [HO]; · iexact HO
    isplitl [HcS0]; · iexact HcS0
    isplitl [HaS0]; · iexact HaS0
    isplitl [HcS1]; · iexact HcS1
    isplitl [HaS1]; · iexact HaS1
    iexact Hr2
  iintro ⟨HO, HaS0, Hs0, HaS1, Hs1, Hr2⟩
  dsimp only
  iapply (wpc_bind c)
  iapply (part15_spec m c K _ (woAt m c))
  isplitl [HO HcS2 HaS2 Hw]
  · isplitr; · iexact HR
    isplitl [HO]; · iexact HO
    isplitl [HcS2]; · iexact HcS2
    isplitl [HaS2]; · iexact HaS2
    iexact Hw
  iintro ⟨HO, HaS2, Hs2, Hw⟩
  -- the cells close
  imod (close m c K 0) $$ [HaB] with HzB
  · isplitr; · iexact HR
    iexact HaB
  imod (close m c K 1) $$ [HaS0] with HzS0
  · isplitr; · iexact HR
    iexact HaS0
  imod (close m c K 2) $$ [HaS1] with HzS1
  · isplitr; · iexact HR
    iexact HaS1
  imod (close m c K 3) $$ [HaS2] with HzS2
  · isplitr; · iexact HR
    iexact HaS2
  imod (close m c K 4) $$ [HaV0] with HzV0
  · isplitr; · iexact HR
    iexact HaV0
  imod (close m c K 5) $$ [HaV1] with HzV1
  · isplitr; · iexact HR
    iexact HaV1
  imod (close m c K 6) $$ [HaV2] with HzV2
  · isplitr; · iexact HR
    iexact HaV2
  -- the store of the result
  simp only [Prog.lift, Prog.bind_op, Prog.bind_ret, Prog.pure_eq_ret]
  iapply (wp_load 𝒱₀ (c : Thread nD τ) none Set.univ (m := outM) (Finset.subset_univ _)) $$ Hout; iintro Hout
  iapply (wp_store 𝒱₀ (c : Thread nD τ) none Set.univ (m := outM) (r := outR) (Mk := Finset.univ) (Finset.subset_univ _)) $$ Hout; iintro Hout
  rw [write_out]
  iapply (wpc_ret c)
  iapply Hk
  ihave Hs := (repaid c (spread (blkOf m c))) $$ [Hs0 Hs1 Hs2 Hs]
  · isplitl [Hs0]; · iexact Hs0
    isplitl [Hs1]; · iexact Hs1
    isplitl [Hs2]; · iexact Hs2
    iexact Hs
  ihave Hscr := (scr_join c (spread (blkOf m c)) (spread (blkOf m (dn 0 c))) (spread (blkOf m (dn 1 c))) (spread (blkOf m (dn 2 c)))) $$ [Hs Hr1 Hr2 Hr3]
  · isplitl [Hs]; · iexact Hs
    isplitl [Hr1]; · iexact Hr1
    isplitl [Hr2]; · iexact Hr2
    iexact Hr3
  unfold bodyPost Φ₁ Dat.owesAt Pipeline.owesWithin
  rw [show (dats m 0 c).owed t0_0.succ = 0 from rfl]
  isplitl [Hscr HzB HzS0 HzS1 HzS2 HzV0 HzV1 HzV2]
  · isplitl [Hscr]; · iexact Hscr
    isplitl [HzB]; · iexact HzB
    isplitl [HzS0 HzS1 HzS2]
    · isplitl [HzS0]; · iexact HzS0
      isplitl [HzS1]; · iexact HzS1
      iexact HzS2
    isplitl [HzV0]; · iexact HzV0
    isplitl [HzV1]; · iexact HzV1
    iexact HzV2
  isplitl [HO]
  · iexists (insert (SemLoc.dma (sendS 2), ()) (insert (SemLoc.dma (sendS 1), ()) (insert (SemLoc.dma (sendS 0), ()) (insert (SemLoc.dma (recvS 1), ())
      (insert (SemLoc.dma (recvS 2), ()) (insert (SemLoc.dma (recvS 0), ()) (insert (SemLoc.reg barS, ()) W)))))))
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  isplitl [HK]
  · iexists _; isplitr; · (ipureintro; rfl)
    iexact HK
  isplitl [HV]
  · iexists _; isplitr; · (ipureintro; rfl)
    iexact HV
  iexists _; isplitr; · (ipureintro; rfl)
  iexact Hout

set_option maxRecDepth 8000 in
/-- The body obligation of the launch on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) (fun _ => bodyPost m c)
  iintro H
  iapply (sound_body m c fun _ => bodyPost m c)
  isplitl [H]; · iexact H
  iintro H; iexact H

end Cert.Attn

end
-- ==== Proof.Launch.lean ====
/-
# The launch on the four devices

The cells and duties minted at launch, their dealing to the devices, the credit each device receives, and the run of the
whole program: every execution ends, the result array holds what the body computed, the arguments and all counters are as
they were.
-/
module

public import proofs.«01_k».proof.Proof.Body
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The initial state: memory `m`, every counter at zero. -/
abbrev st₀ : MemSt nD τ sig (Elt F) := ⟨m, fun _ => 0, ρ⟩

/-- The kernel's own semaphores: three for the copies it sends, three for those it receives. -/
abbrev osem : Fin 6 → SemLoc sig := fun
  | 0 => .dma (sendS 0) | 1 => .dma (sendS 1) | 2 => .dma (sendS 2) | 3 => .dma (recvS 0) | 4 => .dma (recvS 1) | 5 => .dma (recvS 2)
/-- The kernel's own semaphores are apart from the pipeline's. -/
theorem ownSemFacts : Pipeline.OwnSemFacts cfg0.spec osem := by decide

/-- Every window is held whole. -/
theorem share_eq (c : Dev nD) (w : Fin cfg0.W) : (dats m 0 c).share w = fullShare := by unfold Dat.share; split <;> rfl

/-! ## The cells and the duty tokens -/

/-- The seven semaphores of a device are different. -/
theorem csem_injective : Function.Injective csem := by decide
/-- The cells of all devices are different. -/
theorem cell_injective : Function.Injective (cell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of all devices. -/
def allCells : Finset (GSem nD τ sig) := Finset.univ.map ⟨cell, cell_injective⟩

/-- The semaphore and the duty of token `(k, i)`: the signal from `k.rev`, the end of copy `k`, the arrival of copy `k`. -/
def tokAt : Fin 3 × Fin 3 → SemLoc sig × Fin 3
  | (k, 0) => (.reg barS, k.rev)
  | (k, 1) => (.dma (sendS k), 0)
  | (k, 2) => (.dma (recvS k), 0)
/-- The nine tokens of a device are at different places. -/
theorem tokAt_injective : Function.Injective tokAt := by decide
/-- The payment token of a device, a cell and a payer. -/
def tokOf (x : Dev nD × Fin 3 × Fin 3) : GSem nD τ sig × ℕ × Fin 3 := (((x.1 : Thread nD τ), (tokAt x.2).1), 0, (tokAt x.2).2)
/-- The payment tokens are different. -/
theorem tokOf_injective : Function.Injective tokOf := by
  rintro ⟨c, j⟩ ⟨c', j'⟩ h
  have h1 : c = c' := congrArg (fun x : GSem nD τ sig × ℕ × Fin 3 => x.1.1.1) h
  have h2 : tokAt j = tokAt j' := congrArg (fun x : GSem nD τ sig × ℕ × Fin 3 => (x.1.2, x.2.2)) h
  rw [h1, tokAt_injective h2]
/-- All payment tokens. -/
def allToks : Finset (GSem nD τ sig × ℕ × Fin 3) := Finset.univ.map ⟨tokOf, tokOf_injective⟩

/-- The ghost state at the launch. -/
def u₀ : UU := (initOf (Pipeline.cells cfgs cellOf_inj) (Pipeline.launchToks cfgs cellOf_inj), initOf allCells allToks)

/-- The tokens of device `c`'s own cells that go with `k`. -/
def mintOne (c : Dev nD) (k : Fin 3) : sProp 𝕄 :=
  iprop(dutyTok EX (barCell c) 0 k.rev ∗ dutyTok EX (sendCell k c) 0 0 ∗ dutyTok EX (recvCell k c) 0 0)
/-- A device's tokens. -/
def toks (c : Dev nD) : sProp 𝕄 := bigSep Finset.univ fun k => mintOne c k

/-- What device `c` receives at launch: its cells' states, its positions, its cells' tokens. -/
def G (c : Dev nD) : sProp 𝕄 :=
  iprop((bigSep Finset.univ fun k : Fin 7 => roundState EX (exch m) (cell (c, k)) 0)
    ∗ (bigSep Finset.univ fun k : Fin 7 => iprop(atPos EX (cell (c, k)) 0 ∅ 0 ∗ reached EX (cell (c, k)) 0)) ∗ toks c)

/-- What it holds of them once they are shared out: every cell's record, its positions, the tokens it pays with. -/
def G' (c : Dev nD) : sProp 𝕄 := iprop(∃ K, records m K ∗ posns c ∗ payToks c)

omit [FloatOps F] in
/-- A product over three, written out. -/
theorem sep_three (Φ : Fin 3 → sProp 𝕄) : bigSep Finset.univ Φ = iprop(Φ 0 ∗ Φ 1 ∗ Φ 2) := bigSep_univ_eq_bigSepL [0, 1, 2] (by decide) (by decide) Φ
omit [FloatOps F] in
/-- A product over seven, written out. -/
theorem sep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- The initial ghost state, dealt out to the devices. -/
theorem fund : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 7 => Φ (cell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    refine bigSep_congr fun c _ => ?_
    unfold toks; rw [bigSep_univ_prod]
    exact bigSep_congr fun k _ => by unfold mintOne; rw [sep_three]; rfl
  iintro HX
  imod (Rounds.fund EX (exch m) allCells allToks) $$ HX with ⟨Hst, Hr, Hat, Htok⟩
  imodintro
  ihave Hst := (Entails.of_eq (hX fun g => roundState EX (exch m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

omit [FloatOps F] in
/-- The kernel's own semaphores at zero, written out. -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- The barrier semaphore at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All semaphores at zero are the seven cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (cell (c, k)) 0 : sProp 𝕄) := by
  rw [ownSems0_eq, unscopedSems0_eq, sep_seven]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
/-- Cells at zero, with their states, become shared records. -/
theorem open_cells (c : Dev nD) :
    iprop((bigSep Finset.univ fun k : Fin 7 => semVal (cell (c, k)) 0) ∗ bigSep Finset.univ fun k : Fin 7 => roundState EX (exch m) (cell (c, k)) 0)
      ⊢ (|={Set.univ}=> bigSep Finset.univ fun k => iprop(∃ κ : ℕ, cellInv EX (exch m) κ (cell (c, k))) : sProp 𝕄) := by
  rw [← bigSep_sep']
  exact (bigSep_mono fun k _ => (Rounds.body_intro EX (exch m) (cell (c, k))).trans inv_alloc).trans (bigSep_fupd _ _)

omit [FloatOps F] in
/-- What a device receives at launch, its cells made into shared records. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (exch m) κ (cell (c, k))))
          ∗ (bigSep Finset.univ fun k => iprop(atPos EX (cell (c, k)) 0 ∅ 0 ∗ reached EX (cell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (open_cells m c) $$ [Hv Hst] with Hinv
  · isplitl [Hv]; · iexact Hv
    iexact Hst
  imodintro
  isplitl [Hinv]; · iexact Hinv
  isplitl [Hat]; · iexact Hat
  iexact Htok

/-! ## Sharing out -/

omit [FloatOps F] in
/-- The tokens by the cell's device are the tokens by the payer's. -/
theorem mint_pay (k : Fin 3) : (bigSep Finset.univ fun c : Dev nD => (mintOne c k : sProp 𝕄)) = bigSep Finset.univ fun c : Dev nD => payOne c k := by
  unfold mintOne payOne
  rw [bigSep_sep', bigSep_sep', bigSep_sep', bigSep_sep',
    bigSep_univ_equiv (turn k) (fun c : Dev nD => (dutyTok EX (barCell c) 0 k.rev : sProp 𝕄)),
    bigSep_univ_equiv (turn k) (fun c : Dev nD => (dutyTok EX (recvCell k c) 0 0 : sProp 𝕄))]
  rfl

omit [FloatOps F] in
/-- Token `k` of a device's barrier and of its receive cell go to the device `k+1` places before it. -/
theorem toks_around : (bigSep Finset.univ fun c : Dev nD => (toks c : sProp 𝕄)) = bigSep Finset.univ fun c : Dev nD => payToks c := by
  unfold toks payToks
  simp only [sep_three]
  rw [bigSep_sep', bigSep_sep', bigSep_sep', bigSep_sep', mint_pay, mint_pay, mint_pay]

omit [FloatOps F] in
/-- What may be copied serves each factor of a product. -/
theorem spread_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's positions, written out. -/
theorem posns_eq (c : Dev nD) : (bigSep Finset.univ fun k : Fin 7 => (atPos EX (cell (c, k)) 0 ∅ 0 : sProp 𝕄)) ⊢ posns c := by
  rw [sep_seven]; unfold posns
  iintro ⟨HB, H1, H2, H3, H4, H5, H6⟩
  isplitl [HB]; · iexact HB
  isplitl [H1 H2 H3]
  · isplitl [H1]; · iexact H1
    isplitl [H2]; · iexact H2
    iexact H3
  isplitl [H4]; · iexact H4
  isplitl [H5]; · iexact H5
  iexact H6

omit [FloatOps F] in
/-- The records, a device's positions and the tokens it pays with are what it holds after sharing. -/
theorem deal (K : Dev nD × Fin 7 → ℕ) (c : Dev nD) :
    iprop(records m K ∗ ((bigSep Finset.univ fun k : Fin 7 => (atPos EX (cell (c, k)) 0 ∅ 0 : sProp 𝕄)) ∗ payToks c)) ⊢ G' m c := by
  unfold G'
  iintro ⟨HR, Hat, Htok⟩
  iexists K
  isplitl [HR]; · iexact HR
  isplitl [Hat]; · iapply (posns_eq (F := F) c); iexact Hat
  iexact Htok

omit [FloatOps F] in
/-- What all devices brought, shared out again. -/
theorem regroup :
    (bigSep Finset.univ fun c : Dev nD => iprop((bigSep Finset.univ fun k => iprop(∃ κ : ℕ, cellInv EX (exch m) κ (cell (c, k))))
          ∗ (bigSep Finset.univ fun k => iprop(atPos EX (cell (c, k)) 0 ∅ 0 ∗ reached EX (cell (c, k)) 0)) ∗ toks c) : sProp 𝕄)
      ⊢ bigSep Finset.univ (G' m) := by
  rw [bigSep_sep', bigSep_sep', ← bigSep_univ_prod (fun ck : Dev nD × Fin 7 => iprop(∃ κ : ℕ, cellInv EX (exch m) κ (cell ck))),
    bigSep_congr (s := Finset.univ) (fun (c : Dev nD) _ => bigSep_sep' Finset.univ (fun k : Fin 7 => (atPos EX (cell (c, k)) 0 ∅ 0 : sProp 𝕄)) (fun k => reached EX (cell (c, k)) 0)),
    bigSep_sep', ← bigSep_univ_prod (fun ck : Dev nD × Fin 7 => (reached EX (cell ck) 0 : sProp 𝕄)), toks_around]
  iintro ⟨HI, ⟨Hat, HR⟩, Htok⟩
  ihave HK := (BI.bigSep_exists_pi Finset.univ (fun (ck : Dev nD × Fin 7) (κ : ℕ) => (cellInv EX (exch m) κ (cell ck) : sProp 𝕄))) $$ HI
  icases HK with ⟨%K, HI⟩
  iapply (spread_persistent (R := records m K) fun c _ => deal m K c)
  isplitl [HI HR]
  · unfold records
    isplitl [HI]; · iexact HI
    iexact HR
  iapply (Entails.of_eq (bigSep_sep' Finset.univ (fun c : Dev nD => bigSep Finset.univ fun k : Fin 7 => (atPos EX (cell (c, k)) 0 ∅ 0 : sProp 𝕄)) payToks).symm)
  isplitl [Hat]; · iexact Hat
  iexact Htok

omit [FloatOps F] in
/-- From the launch to the shares of all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit each device receives -/

/-- Barrier cells are equal on the same device only. -/
theorem bar_eq_iff {a b : Dev nD} : barCell a = barCell b ↔ a = b := ⟨fun h => congrArg (fun g : GSem nD τ sig => g.1.1) h, fun h => h ▸ rfl⟩
/-- Receive cells are equal for the same copy on the same device only. -/
theorem recv_eq_iff {k j : Fin 3} {a b : Dev nD} : recvCell k a = recvCell j b ↔ k = j ∧ a = b :=
  ⟨fun h => ⟨by have h2 : SemLoc.dma (recvS k) = SemLoc.dma (recvS j) := congrArg Prod.snd h; exact Fin.ext (Nat.add_left_cancel (congrArg Fin.val (SemLoc.dma.inj h2))),
    congrArg (fun g : GSem nD τ sig => g.1.1) h⟩, fun h => by rw [h.1, h.2]⟩
/-- A receive cell is no barrier cell. -/
theorem recv_ne_bar {k : Fin 3} {a b : Dev nD} : recvCell k a ≠ barCell b := fun h => by
  have h2 : SemLoc.dma (recvS k) = SemLoc.reg barS := congrArg Prod.snd h
  cases h2

/-- What the signal of device `d` to the device `k+1` places after it adds to what is owed to device `c`'s barrier. -/
theorem tally_bar (k : Fin 3) (d c : Dev nD) : (tallyAt (barCell (up k d)) () 1 : CellTallies nD τ sig Unit) (barCell c) () = if d = dn k c then 1 else 0 := by
  rw [tallyAt_apply]
  by_cases h : d = dn k c
  · rw [if_pos h, h, up_dn]; exact if_pos ⟨rfl, rfl⟩
  · rw [if_neg h]; exact if_neg fun h' => h (by rw [bar_eq_iff.mp h'.1, dn_up])
/-- What a debt on one receive cell counts at another. -/
theorem tally_recv (k j : Fin 3) (d c : Dev nD) :
    (tallyAt (recvCell j (up j d)) () N : CellTallies nD τ sig Unit) (recvCell k c) () = if j = k then (if d = dn k c then N else 0) else 0 := by
  rw [tallyAt_apply]
  by_cases hk : j = k
  · subst hk
    rw [if_pos rfl]
    by_cases h : d = dn j c
    · rw [if_pos h, h, up_dn]; exact if_pos ⟨rfl, rfl⟩
    · rw [if_neg h]; exact if_neg fun h' => h (by rw [(recv_eq_iff.mp h'.1).2, dn_up])
  · rw [if_neg hk]; exact if_neg fun h' => hk (recv_eq_iff.mp h'.1).1.symm
/-- A debt on a barrier counts nothing at a receive cell. -/
theorem tally_bar_recv (k : Fin 3) (d c : Dev nD) : (tallyAt (barCell d) () 1 : CellTallies nD τ sig Unit) (recvCell k c) () = 0 := by
  rw [tallyAt_apply]; exact if_neg fun h' => recv_ne_bar h'.1
/-- A debt on a receive cell counts nothing at a barrier. -/
theorem tally_recv_bar (k : Fin 3) (d c : Dev nD) : (tallyAt (recvCell k d) () N : CellTallies nD τ sig Unit) (barCell c) () = 0 := by
  rw [tallyAt_apply]; exact if_neg fun h' => recv_ne_bar h'.1.symm

/-- What device `d` owes to device `c`'s barrier at the start: one if `c` is one of its peers. -/
theorem owed_bar (d c : Dev nD) : O₀ d (barCell c) () = (if d = dn 2 c then 1 else 0) + (if d = dn 1 c then 1 else 0) + (if d = dn 0 c then 1 else 0) := by
  unfold O₀ B1 B2 X0 X1 X2
  simp only [Pi.add_apply, Finsupp.add_apply]
  rw [tally_recv_bar 2 _ c, tally_recv_bar 1 _ c, tally_recv_bar 0 _ c, tally_bar 2 d c, tally_bar 1 d c, tally_bar 0 d c, Nat.add_zero, Nat.zero_add]
/-- What device `d` owes to a receive cell of `c` at the start: the copy's size if it sends there. -/
theorem owed_recv (k : Fin 3) (d c : Dev nD) : O₀ d (recvCell k c) () = if d = dn k c then N else 0 := by
  unfold O₀ B1 B2 X0 X1 X2
  simp only [Pi.add_apply, Finsupp.add_apply]
  rw [tally_bar_recv k _ c, tally_bar_recv k _ c, tally_bar_recv k _ c, tally_recv k 2 d c, tally_recv k 1 d c, tally_recv k 0 d c]
  fin_cases k
  · exact (Nat.zero_add _)
  · exact (Nat.add_zero _).trans (Nat.zero_add _)
  · exact rfl

/-- All that the devices owe to a barrier at the start is three. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (dn 0 c) fun _ => 1, Finset.sum_ite_eq' Finset.univ (dn 1 c) fun _ => 1, Finset.sum_ite_eq' Finset.univ (dn 2 c) fun _ => 1,
    if_pos (Finset.mem_univ _), if_pos (Finset.mem_univ _), if_pos (Finset.mem_univ _)]
/-- All that the devices owe to a receive cell at the start is one copy's size. -/
theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, Finset.sum_ite_eq' Finset.univ (dn k c) fun _ => N,
    if_pos (Finset.mem_univ _)]

/-- The semaphores of a device that are neither its barrier nor a receive cell. -/
abbrev others : Finset (SemLoc sig) := (((Finset.univ.erase (SemLoc.reg barS)).erase (SemLoc.dma (recvS 0))).erase (SemLoc.dma (recvS 1))).erase (SemLoc.dma (recvS 2))

omit [FloatOps F] in
/-- A device's credit at launch, cell by cell. -/
theorem creds_eq (c : Dev nD) : (Pipeline.launchCred O₀ c : sProp 𝕄)
    = iprop(cred (tallyOn (barCell c) (launchCredit (Pipeline.owing O₀) 0 (barCell c)))
      ∗ cred (tallyOn (recvCell 0 c) (launchCredit (Pipeline.owing O₀) 0 (recvCell 0 c)))
      ∗ cred (tallyOn (recvCell 1 c) (launchCredit (Pipeline.owing O₀) 0 (recvCell 1 c)))
      ∗ cred (tallyOn (recvCell 2 c) (launchCredit (Pipeline.owing O₀) 0 (recvCell 2 c)))
      ∗ bigSep others fun sm => cred (tallyOn ((c : Thread nD τ), sm) (launchCredit (Pipeline.owing O₀) 0 ((c : Thread nD τ), sm)))) := by
  unfold Pipeline.launchCred
  rw [bigSep_univ_at _ (SemLoc.reg barS), bigSep_erase (Finset.mem_erase.mpr ⟨(fun h => by cases h), Finset.mem_univ (SemLoc.dma (recvS 0))⟩),
    bigSep_erase (Finset.mem_erase.mpr ⟨(by decide), Finset.mem_erase.mpr ⟨(fun h => by cases h), Finset.mem_univ (SemLoc.dma (recvS 1))⟩⟩),
    bigSep_erase (Finset.mem_erase.mpr ⟨(by decide), Finset.mem_erase.mpr ⟨(by decide), Finset.mem_erase.mpr ⟨(fun h => by cases h), Finset.mem_univ (SemLoc.dma (recvS 2))⟩⟩⟩)]
  rfl

omit [FloatOps F] in
/-- A device's credit at launch gives three units at its barrier and one copy at each receive cell. -/
theorem creds (c : Dev nD) : (Pipeline.launchCred O₀ c : sProp 𝕄) ⊢ credits c := by
  unfold credits
  rw [creds_eq, launch_bar, launch_recv 0 c, launch_recv 1 c, launch_recv 2 c]
  iintro ⟨HB, H0, H1, H2, -⟩
  isplitl [HB]; · iexact HB
  isplitl [H0]; · iexact H0
  isplitl [H1]; · iexact H1
  iexact H2

/-! ## The run -/

omit [FloatOps F] in
/-- What the launch hands to a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The launch's resources give what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, Hr⟩
  isplitl [Hs]; · iexact Hs
  iexact Hr

/-- What the body leaves gives back the buffer and the cells at zero. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scrPts
  iintro ⟨Hr, HB, ⟨H1, H2, H3⟩, H4, H5, H6⟩
  isplitl [HB]; · iexact HB
  isplitl [H1 H2 H3 H4 H5 H6]
  · isplitl [H1]; · iexact H1
    isplitl [H2]; · iexact H2
    isplitl [H3]; · iexact H3
    isplitl [H4]; · iexact H4
    isplitl [H5]; · iexact H5
    iexact H6
  iexact Hr

/-- The pipeline's own waits are below every debt. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What each window's array holds after the run. -/
def finalA (c : Dev nD) (w : Fin cfg0.W) : Buf (Elt F) ((cfg0.win w).arr.view.loc (c : Thread nD τ)) := (dats m 0 c).arrAt w cfg0.N

/-- At the end of the run every window's array is at its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with all counters at zero, every weakly fair execution of the four devices ends, with every window's
    array at its final contents and every counter at zero. -/
theorem run_main : θ_run defs (onTc (τ := τ) (main (F := F))) (st₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Attn

end
-- ==== Proof.Outcome.lean ====
/-
# The outcome of a run, array by array

Which arrays the run leaves alone, and what the result array holds.
-/
module

public import proofs.«01_k».proof.Proof.Launch

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The block that the body reads as activations is the whole argument. -/
theorem xAt_eq (c : Dev nD) : xAt m c = m ((c : Thread nD τ).loc main_arg0) :=
  Memref.read_access_unit_zero (Elt F) main_arg0 (funext fun a => by fin_cases a <;> rfl) _ (m ((c : Thread nD τ).loc main_arg0))
/-- The activations stay as they were. -/
theorem finalA_0 (c : Dev nD) : finalA m c (0 : Fin 6) = m ((c : Thread nD τ).loc main_arg0) := (dats m 0 c).arrAt_in (0 : Fin 6) rfl _

/-- The block read as query weights is the whole argument. -/
theorem wqAt_eq (c : Dev nD) : wqAt m c = m ((c : Thread nD τ).loc main_arg1) :=
  Memref.read_access_unit_zero (Elt F) main_arg1 (funext fun a => by fin_cases a <;> rfl) _ (m ((c : Thread nD τ).loc main_arg1))
/-- The query weights stay as they were. -/
theorem finalA_1 (c : Dev nD) : finalA m c (1 : Fin 6) = m ((c : Thread nD τ).loc main_arg1) := (dats m 0 c).arrAt_in (1 : Fin 6) rfl _

/-- The block read as output weights is the whole argument. -/
theorem woAt_eq (c : Dev nD) : woAt m c = m ((c : Thread nD τ).loc main_arg2) :=
  Memref.read_access_unit_zero (Elt F) main_arg2 (funext fun a => by fin_cases a <;> rfl) _ (m ((c : Thread nD τ).loc main_arg2))
/-- The output weights stay as they were. -/
theorem finalA_2 (c : Dev nD) : finalA m c (2 : Fin 6) = m ((c : Thread nD τ).loc main_arg2) := (dats m 0 c).arrAt_in (2 : Fin 6) rfl _

/-- The block read as keys is the whole argument. -/
theorem keyAt_eq (c : Dev nD) : keyAt m c = m ((c : Thread nD τ).loc main_arg3) :=
  Memref.read_access_unit_zero (Elt F) main_arg3 (funext fun a => by fin_cases a <;> rfl) _ (m ((c : Thread nD τ).loc main_arg3))
/-- The keys stay as they were. -/
theorem finalA_3 (c : Dev nD) : finalA m c (3 : Fin 6) = m ((c : Thread nD τ).loc main_arg3) := (dats m 0 c).arrAt_in (3 : Fin 6) rfl _

/-- The block read as values is the whole argument. -/
theorem valAt_eq (c : Dev nD) : valAt m c = m ((c : Thread nD τ).loc main_arg4) :=
  Memref.read_access_unit_zero (Elt F) main_arg4 (funext fun a => by fin_cases a <;> rfl) _ (m ((c : Thread nD τ).loc main_arg4))
/-- The values stay as they were. -/
theorem finalA_4 (c : Dev nD) : finalA m c (4 : Fin 6) = m ((c : Thread nD τ).loc main_arg4) := (dats m 0 c).arrAt_in (4 : Fin 6) rfl _

/-- The result array ends as `outAt`. -/
theorem finalA_5 (c : Dev nD) : finalA m c (5 : Fin 6) = outAt m c := by
  have h : (win0_5.blk (0 : Fin 1)).view.read (Elt F) (finalA m c (5 : Fin 6)) = outAt m c := by
    unfold finalA
    rw [show cfg0.N = ((0 : Fin 1) : Fin cfg0.N).val + 1 from rfl, (dats m 0 c).arrAt_succ (5 : Fin 6) (0 : Fin 1),
      show (cfg0.win (5 : Fin 6)).flush (0 : Fin 1) = true from by decide, if_pos rfl]
    exact View.read_write_univ _ _
  exact (Memref.read_access_unit_zero (Elt F) main_v1 (funext fun a => by fin_cases a <;> rfl) _ (finalA m c (5 : Fin 6))).symm.trans h

/-- Every execution ends; the result array of each device holds `outAt`, its arguments are as they were, every counter is zero. -/
theorem run_result : θ_run (defs (F := F)) (onTc (τ := τ) (main (F := F))) (st₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c 5).trans (finalA_5 m c), (h.1 c 0).trans (finalA_0 m c), (h.1 c 1).trans (finalA_1 m c),
    (h.1 c 2).trans (finalA_2 m c), (h.1 c 3).trans (finalA_3 m c), (h.1 c 4).trans (finalA_4 m c)⟩, h.2⟩) (run_main m ρ)

end Cert.Attn

end
-- ==== Proof.Frames.lean ====
/-
# The runs as the certificate states them

The frame of each program.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Outcome

@[expose] public section

noncomputable section

namespace Cert.Proof

open Idealize.ShloMosaic Idealize.SL.Sem

open Cert.KernelIdeal in
/-- The frame at any float values. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (Cert.Attn.run_result m ρ)

set_option maxRecDepth 65536 in
/-- The two programs' tables of kernel bodies agree: the texts are the same. -/
theorem bodies_eq : Cert.Kernel.defs₀ (F := Bits) = Cert.KernelIdeal.defs₀ (F := Bits) := by
  unfold Cert.Kernel.defs₀ Cert.KernelIdeal.defs₀
  refine congrArg Defs.onTc ?_
  funext l a
  rcases l with ⟨_ | n, h⟩
  · rfl
  · exact absurd h (by simp)

set_option maxRecDepth 65536 in
/-- … and so do their calls. -/
theorem calls_eq : Cert.Kernel.defs (F := Bits) = Cert.KernelIdeal.defs (F := Bits) := by
  unfold Cert.Kernel.defs Cert.KernelIdeal.defs
  exact congrArg (Pipeline.defs (Cert.KernelIdeal.pcfgs (F := Bits))) bodies_eq

set_option maxRecDepth 65536 in
set_option maxHeartbeats 4000000 in
/-- The kernel on bit patterns: the same text, so the same run. -/
theorem frame_kernel : Cert.quiescent_Kernel := by
  intro m ρ _
  rw [calls_eq]
  exact frame_any (F := Bits) m ρ

/-- The kernel over the extended reals. -/
theorem frame_kernelIdeal : Cert.quiescent_KernelIdeal := fun m ρ _ => frame_any m ρ

/-- The reference over the extended reals. It has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Payloads.lean ====
/-
# The kernel's arithmetic at an index

What the vector operations of the kernel's body compute over the extended reals, read at an index: the scaled
projection, the unnormalised weights of one chunk, their sums and their products with the values, the output projection.
-/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Attn

open Cert.KernelIdeal Cert.KernelIdeal.Gen
open Idealize.ShloMosaic

/-- Keys or values of one batch and one head of a chunk, as loaded. -/
abbrev Tile : Type := S1x1x1x1x128x64.Idx → EReal

/-- The scale's constant. -/
abbrev eighth : EReal := Ideal.ofBits .f32 0x3E000000#32

/-- The scaled queries: row `R` of the flattened activations, column `n`. -/
theorem proj_apply (x : FVec Ideal S2x128x512 .bf16) (wq : FVec Ideal S512x512 .bf16) (R : Fin 256) (n : Fin 512) :
    k0_pay10 (F := Ideal) x wq (ix2 R n)
      = (∑ d : Fin 512, x (ix3 ⟨R.val / 128, by omega⟩ ⟨R.val % 128, by omega⟩ d) * wq (ix2 d n)) * eighth := by
  pointwise [k0_pay10]

/-- The weight of key `j` for query row `r`. -/
theorem weight_apply (q : FVec Ideal S512x64 .bf16) (k : Tile) (r : Fin 512) (j : Fin 128) :
    k0_pay15 (F := Ideal) q k (ix2 r j) = Ideal.exp (∑ e : Fin 64, q (ix2 r e) * k (ix6 0 0 0 0 j e)) := by
  pointwise [k0_pay15]

/-- A chunk's sum of weights. -/
theorem mass_apply (q : FVec Ideal S512x64 .bf16) (k : Tile) (r : Fin 512) :
    k0_pay16 (F := Ideal) q k (ix2 r 0) = ∑ j : Fin 128, Ideal.exp (∑ e : Fin 64, q (ix2 r e) * k (ix6 0 0 0 0 j e)) := by
  pointwise [k0_pay16, k0_pay15]

/-- A chunk's sum of weighted values. -/
theorem mix_apply (q : FVec Ideal S512x64 .bf16) (k v : Tile) (r : Fin 512) (d : Fin 64) :
    k0_pay17 (F := Ideal) q k v (ix2 r d)
      = ∑ j : Fin 128, Ideal.exp (∑ e : Fin 64, q (ix2 r e) * k (ix6 0 0 0 0 j e)) * v (ix6 0 0 0 0 j d) := by
  pointwise [k0_pay17, k0_pay15]

/-! ## Pieces laid side by side -/

/-- Four arrays of 128 rows, one below the other, at row `i` of the `h`-th. -/
theorem below_apply {α : Type} (f : Fin 4 → S128x64.Idx → α)
    (hc : Shape.Concatenates [S128x64, S128x64, S128x64, S128x64] S512x64 0) (h : Fin 4) (i : Fin 128) (e : Fin 64) :
    concatenate S512x64 0 [⟨S128x64, f 0⟩, ⟨S128x64, f 1⟩, ⟨S128x64, f 2⟩, ⟨S128x64, f 3⟩] hc (ix2 ⟨h.val * 128 + i.val, by omega⟩ e)
      = f h (ix2 i e) := by
  refine concatenate_ofFn_apply (t := S512x64) (s₁ := S128x64) 0 f hc rfl 128 rfl _ h ?_ (ix2 i e) ?_ ?_
  · show (h.val * 128 + i.val) / 128 = h.val; omega
  · show i.val = (h.val * 128 + i.val) % 128; omega
  · intro b hb; fin_cases b
    · exact absurd rfl hb
    · rfl

/-- Eight arrays of 64 columns, side by side, at column `c`. -/
theorem beside_apply {α : Type} (f : Fin 8 → S128x64.Idx → α)
    (hc : Shape.Concatenates [S128x64, S128x64, S128x64, S128x64, S128x64, S128x64, S128x64, S128x64] S128x512 1) (i : Fin 128) (c : Fin 512) :
    concatenate S128x512 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩] hc (ix2 i c)
      = f ⟨c.val / 64, by omega⟩ (ix2 i ⟨c.val % 64, by omega⟩) := by
  refine concatenate_ofFn_apply (t := S128x512) (s₁ := S128x64) 1 f hc rfl 64 rfl _ ⟨c.val / 64, by omega⟩ rfl _ rfl ?_
  intro b hb; fin_cases b
  · rfl
  · exact absurd rfl hb

/-- The queries of batch `b` and of the heads that share the keys' head `g`, one head below the other. -/
def queries (x : FVec Ideal S2x128x512 .bf16) (wq : FVec Ideal S512x512 .bf16) (b g : Fin 2) : FVec Ideal S512x64 .bf16 :=
  match b, g with
  | 0, 0 => k0_pay11 x wq
  | 0, 1 => k0_pay12 x wq
  | 1, 0 => k0_pay13 x wq
  | 1, 1 => k0_pay14 x wq

/-- Four blocks of 64 neighbouring columns of the same 128 rows, one below the other. -/
theorem cut_apply {α : Type} (p : S256x512.Idx → α) (r o : ℕ) (hr : r + 128 ≤ 256) (ho : o + 256 ≤ 512)
    (h0 : S256x512.Slices ![r, o] S128x64) (h1 : S256x512.Slices ![r, o + 64] S128x64)
    (h2 : S256x512.Slices ![r, o + 128] S128x64) (h3 : S256x512.Slices ![r, o + 192] S128x64)
    (hc : Shape.Concatenates [S128x64, S128x64, S128x64, S128x64] S512x64 0) (h : Fin 4) (i : Fin 128) (e : Fin 64) :
    concatenate S512x64 0 [⟨S128x64, extractStridedSlice S128x64 ![r, o] p h0⟩, ⟨S128x64, extractStridedSlice S128x64 ![r, o + 64] p h1⟩,
        ⟨S128x64, extractStridedSlice S128x64 ![r, o + 128] p h2⟩, ⟨S128x64, extractStridedSlice S128x64 ![r, o + 192] p h3⟩] hc
        (ix2 ⟨h.val * 128 + i.val, by omega⟩ e)
      = p (ix2 ⟨r + i.val, by omega⟩ ⟨o + h.val * 64 + e.val, by omega⟩) := by
  refine (below_apply ![extractStridedSlice S128x64 ![r, o] p h0, extractStridedSlice S128x64 ![r, o + 64] p h1,
    extractStridedSlice S128x64 ![r, o + 128] p h2, extractStridedSlice S128x64 ![r, o + 192] p h3] hc h i e).trans ?_
  fin_cases h <;> exact extractStridedSlice_apply _ _ (by assumption) _ _ (fun a => by fin_cases a <;> rfl)

/-- The queries of a batch and keys' head at an index: row `h * 128 + i` is query row `i` of the group's head `h`, scaled. -/
theorem queries_apply (x : FVec Ideal S2x128x512 .bf16) (wq : FVec Ideal S512x512 .bf16) (b g : Fin 2) (h : Fin 4) (i : Fin 128) (e : Fin 64) :
    queries x wq b g (ix2 ⟨h.val * 128 + i.val, by omega⟩ e)
      = (∑ d : Fin 512, x (ix3 b i d) * wq (ix2 d ⟨g.val * 256 + h.val * 64 + e.val, by omega⟩)) * eighth := by
  have key : queries x wq b g (ix2 ⟨h.val * 128 + i.val, by omega⟩ e)
      = k0_pay10 (F := Ideal) x wq (ix2 ⟨b.val * 128 + i.val, by omega⟩ ⟨g.val * 256 + h.val * 64 + e.val, by omega⟩) := by
    fin_cases b <;> fin_cases g
    · exact cut_apply (k0_pay10 (F := Ideal) x wq) 0 0 (by omega) (by omega) slices_S256x512_o0_0_S128x64 slices_S256x512_o0_64_S128x64 slices_S256x512_o0_128_S128x64 slices_S256x512_o0_192_S128x64 concatenates_S128x64_S128x64_S128x64_S128x64_S512x64_d0 h i e
    · exact cut_apply (k0_pay10 (F := Ideal) x wq) 0 256 (by omega) (by omega) slices_S256x512_o0_256_S128x64 slices_S256x512_o0_320_S128x64 slices_S256x512_o0_384_S128x64 slices_S256x512_o0_448_S128x64 concatenates_S128x64_S128x64_S128x64_S128x64_S512x64_d0 h i e
    · exact cut_apply (k0_pay10 (F := Ideal) x wq) 128 0 (by omega) (by omega) slices_S256x512_o128_0_S128x64 slices_S256x512_o128_64_S128x64 slices_S256x512_o128_128_S128x64 slices_S256x512_o128_192_S128x64 concatenates_S128x64_S128x64_S128x64_S128x64_S512x64_d0 h i e
    · exact cut_apply (k0_pay10 (F := Ideal) x wq) 128 256 (by omega) (by omega) slices_S256x512_o128_256_S128x64 slices_S256x512_o128_320_S128x64 slices_S256x512_o128_384_S128x64 slices_S256x512_o128_448_S128x64 concatenates_S128x64_S128x64_S128x64_S128x64_S512x64_d0 h i e
  rw [key, proj_apply]
  have hb : (⟨(b.val * 128 + i.val) / 128, by omega⟩ : Fin 2) = b := Fin.ext (by show (b.val * 128 + i.val) / 128 = b.val; omega)
  have hi : (⟨(b.val * 128 + i.val) % 128, by omega⟩ : Fin 128) = i := Fin.ext (by show (b.val * 128 + i.val) % 128 = i.val; omega)
  simp only [hb, hi]

/-- The product with the output weights, rows and batches split again. -/
theorem outproj_apply (a : FVec Ideal S256x512 .bf16) (wo : FVec Ideal S512x512 .bf16) (b : Fin 2) (i : Fin 128) (n : Fin 512) :
    shapeCast S2x128x512 (matmul (F := Ideal) dot_S256x512_S512x512_S256x512_1_0_0_1_n_n none a (shapeCast S512x512 wo shapeCasts_S512x512_S512x512)
        (constant S256x512 .f32 0x00000000#32)) shapeCasts_S256x512_S2x128x512 (ix3 b i n)
      = ∑ c : Fin 512, a (ix2 ⟨b.val * 128 + i.val, by omega⟩ c) * wo (ix2 c n) := by
  pointwise

/-- The heads of one batch, side by side: the first four from `p`, the others from `q`. -/
theorem heads_apply {α : Type} (p q : S512x64.Idx → α)
    (h0 : S512x64.Slices ![0, 0] S128x64) (h1 : S512x64.Slices ![128, 0] S128x64)
    (h2 : S512x64.Slices ![256, 0] S128x64) (h3 : S512x64.Slices ![384, 0] S128x64)
    (hc : Shape.Concatenates [S128x64, S128x64, S128x64, S128x64, S128x64, S128x64, S128x64, S128x64] S128x512 1) (i : Fin 128) (c : Fin 512) :
    concatenate S128x512 1 [⟨S128x64, extractStridedSlice S128x64 ![0, 0] p h0⟩, ⟨S128x64, extractStridedSlice S128x64 ![128, 0] p h1⟩,
        ⟨S128x64, extractStridedSlice S128x64 ![256, 0] p h2⟩, ⟨S128x64, extractStridedSlice S128x64 ![384, 0] p h3⟩,
        ⟨S128x64, extractStridedSlice S128x64 ![0, 0] q h0⟩, ⟨S128x64, extractStridedSlice S128x64 ![128, 0] q h1⟩,
        ⟨S128x64, extractStridedSlice S128x64 ![256, 0] q h2⟩, ⟨S128x64, extractStridedSlice S128x64 ![384, 0] q h3⟩] hc (ix2 i c)
      = (if c.val / 256 = 0 then p else q) (ix2 ⟨c.val / 64 % 4 * 128 + i.val, by omega⟩ ⟨c.val % 64, by omega⟩) := by
  refine (beside_apply ![extractStridedSlice S128x64 ![0, 0] p h0, extractStridedSlice S128x64 ![128, 0] p h1,
    extractStridedSlice S128x64 ![256, 0] p h2, extractStridedSlice S128x64 ![384, 0] p h3,
    extractStridedSlice S128x64 ![0, 0] q h0, extractStridedSlice S128x64 ![128, 0] q h1,
    extractStridedSlice S128x64 ![256, 0] q h2, extractStridedSlice S128x64 ![384, 0] q h3] hc i c).trans ?_
  have hq : c.val / 256 = c.val / 64 / 4 := by omega
  rw [hq]
  generalize hh : (⟨c.val / 64, by omega⟩ : Fin 8) = h
  have hv : c.val / 64 = h.val := congrArg Fin.val hh
  simp only [hv]
  fin_cases h <;> exact extractStridedSlice_apply _ _ (by assumption) _ _ (fun a => by fin_cases a <;> first | rfl | exact (Nat.zero_add _).symm | exact Nat.add_comm _ _)

/-- The two batches, one below the other. -/
theorem batches_apply {α : Type} (f : Fin 2 → S128x512.Idx → α) (hc : Shape.Concatenates [S128x512, S128x512] S256x512 0) (b : Fin 2) (i : Fin 128) (c : Fin 512) :
    concatenate S256x512 0 [⟨S128x512, f 0⟩, ⟨S128x512, f 1⟩] hc (ix2 ⟨b.val * 128 + i.val, by omega⟩ c) = f b (ix2 i c) := by
  refine concatenate_ofFn_apply (t := S256x512) (s₁ := S128x512) 0 f hc rfl 128 rfl _ b ?_ (ix2 i c) ?_ ?_
  · show (b.val * 128 + i.val) / 128 = b.val; omega
  · show i.val = (b.val * 128 + i.val) % 128; omega
  · intro a ha; fin_cases a
    · exact absurd rfl ha
    · rfl

/-- The quotient of weighted values by weights. -/
def quot (l : FVec Ideal S512x1 .f32) (a : FVec Ideal S512x64 .f32) : FVec Ideal S512x64 .bf16 :=
  truncf .bf16 (divf a (broadcastTo S512x64 l broadcasts_S512x1_S512x64)) bitsLt_bf16_f32

/-- The quotient at an index. -/
theorem quot_apply (l : FVec Ideal S512x1 .f32) (a : FVec Ideal S512x64 .f32) (r : Fin 512) (d : Fin 64) :
    quot l a (ix2 r d) = Ideal.div (a (ix2 r d)) (l (ix2 r 0)) := by
  pointwise [quot]

/-- The last step: the quotients of both batches and both keys' heads, side by side, times the output weights. -/
theorem result_apply (l : Fin 2 → Fin 2 → FVec Ideal S512x1 .f32) (a : Fin 2 → Fin 2 → FVec Ideal S512x64 .f32) (wo : FVec Ideal S512x512 .bf16)
    (b : Fin 2) (i : Fin 128) (n : Fin 512) :
    k0_pay70 (F := Ideal) (l 0 0) (a 0 0) (l 0 1) (a 0 1) (l 1 0) (a 1 0) (l 1 1) (a 1 1) wo (ix3 b i n)
      = ∑ c : Fin 512, Ideal.div (a b ⟨c.val / 256, by omega⟩ (ix2 ⟨c.val / 64 % 4 * 128 + i.val, by omega⟩ ⟨c.val % 64, by omega⟩))
          (l b ⟨c.val / 256, by omega⟩ (ix2 ⟨c.val / 64 % 4 * 128 + i.val, by omega⟩ 0)) * wo (ix2 c n) := by
  unfold k0_pay70
  refine (outproj_apply _ wo b i n).trans (Finset.sum_congr rfl fun c _ => congrArg (· * _) ?_)
  refine (batches_apply (fun b' => concatenate S128x512 1
    [⟨S128x64, extractStridedSlice S128x64 ![0, 0] (quot (l b' 0) (a b' 0)) slices_S512x64_o0_0_S128x64⟩,
      ⟨S128x64, extractStridedSlice S128x64 ![128, 0] (quot (l b' 0) (a b' 0)) slices_S512x64_o128_0_S128x64⟩,
      ⟨S128x64, extractStridedSlice S128x64 ![256, 0] (quot (l b' 0) (a b' 0)) slices_S512x64_o256_0_S128x64⟩,
      ⟨S128x64, extractStridedSlice S128x64 ![384, 0] (quot (l b' 0) (a b' 0)) slices_S512x64_o384_0_S128x64⟩,
      ⟨S128x64, extractStridedSlice S128x64 ![0, 0] (quot (l b' 1) (a b' 1)) slices_S512x64_o0_0_S128x64⟩,
      ⟨S128x64, extractStridedSlice S128x64 ![128, 0] (quot (l b' 1) (a b' 1)) slices_S512x64_o128_0_S128x64⟩,
      ⟨S128x64, extractStridedSlice S128x64 ![256, 0] (quot (l b' 1) (a b' 1)) slices_S512x64_o256_0_S128x64⟩,
      ⟨S128x64, extractStridedSlice S128x64 ![384, 0] (quot (l b' 1) (a b' 1)) slices_S512x64_o384_0_S128x64⟩]
    concatenates_S128x64_S128x64_S128x64_S128x64_S128x64_S128x64_S128x64_S128x64_S128x512_d1) _ b i c).trans ?_
  refine (heads_apply _ _ _ _ _ _ _ i c).trans ?_
  by_cases hc : c.val / 256 = 0
  · rw [if_pos hc, quot_apply]
    have : (⟨c.val / 256, by omega⟩ : Fin 2) = 0 := Fin.ext hc
    rw [this]
  · rw [if_neg hc, quot_apply]
    have : (⟨c.val / 256, by omega⟩ : Fin 2) = 1 := Fin.ext (by show c.val / 256 = 1; omega)
    rw [this]

end Cert.Attn

end
-- ==== Proof.Softmax.lean ====
/-
# Weighted means over the extended reals

A softmax whose scores are real numbers gives the same quotients whether or not the largest score is taken away first: the
values it weighs may be any extended reals. Sums over four chunks of keys in any cyclic order are the sum over all keys.
-/
module

public import Idealize.ShloMosaic.Lib.Pointwise

@[expose] public section

noncomputable section

namespace Cert.Attn

open Idealize.ShloMosaic

/-- This word is one eighth. -/
theorem ofBits_eighth : Ideal.ofBits .f32 0x3E000000#32 = (((1 : ℝ) / 8 : ℝ) : EReal) := by
  simp [Ideal.ofBits, Ideal.ieee, -EReal.coe_mul]; norm_num

/-- This word is minus infinity. -/
theorem ofBits_bot : Ideal.ofBits .f32 0xFF800000#32 = (⊥ : EReal) := by
  simp [Ideal.ofBits, Ideal.ieee]

/-- This word is minus infinity. -/
theorem ofBits_bf16_bot : Ideal.ofBits .bf16 0xFF80#16 = (⊥ : EReal) := by
  simp [Ideal.ofBits, Ideal.ieee]

/-- This word is plus infinity. -/
theorem ofBits_bf16_top : Ideal.ofBits .bf16 0x7F80#16 = (⊤ : EReal) := by
  simp [Ideal.ofBits, Ideal.ieee]

/-- The value is a real number. -/
def Finite (x : EReal) : Prop := ∃ r : ℝ, x = r

/-- What lies strictly between the infinities is a real number. -/
theorem finite_of_lt {x : EReal} (h : ⊥ < x) (h' : x < ⊤) : Finite x :=
  ⟨x.toReal, (EReal.coe_toReal h'.ne h.ne').symm⟩

/-- A sum of real numbers, taken among the extended ones, is the same. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of real numbers is one. -/
theorem Finite.mul {x y : EReal} (hx : Finite x) (hy : Finite y) : Finite (x * y) := by
  obtain ⟨r, rfl⟩ := hx
  obtain ⟨t, rfl⟩ := hy
  exact ⟨r * t, (EReal.coe_mul r t).symm⟩

/-- A sum of real numbers is one. -/
theorem Finite.sum {ι : Type} (s : Finset ι) {f : ι → EReal} (h : ∀ i, Finite (f i)) : Finite (∑ i ∈ s, f i) := by
  choose g hg using h
  exact ⟨∑ i ∈ s, g i, by rw [coe_sum]; exact Finset.sum_congr rfl fun i _ => hg i⟩

/-- A real factor moves from inside a sum of real products to the outside. -/
theorem sum_scaled {ι : Type} [Fintype ι] {q k : ι → EReal} {t : EReal} (hq : ∀ i, Finite (q i)) (hk : ∀ i, Finite (k i)) (ht : Finite t) :
    ∑ i, (q i * t) * k i = (∑ i, q i * k i) * t := by
  choose q' hq' using hq
  choose k' hk' using hk
  obtain ⟨t', rfl⟩ := ht
  simp only [hq', hk', ← EReal.coe_mul, ← coe_sum]
  rw [Finset.sum_mul]
  exact congrArg _ (Finset.sum_congr rfl fun i _ => by ring)

/-- A positive real factor moves out of any sum. -/
theorem sum_mul_pos {ι : Type} (s : Finset ι) (f : ι → EReal) {t : ℝ} (ht : 0 ≤ t) : ∑ i ∈ s, f i * (t : EReal) = (∑ i ∈ s, f i) * t := by
  classical
  induction s using Finset.induction_on with
  | empty => simp
  | insert i s hi ih =>
    rw [Finset.sum_insert hi, Finset.sum_insert hi, ih,
      EReal.right_distrib_of_nonneg_of_ne_top (EReal.coe_nonneg.mpr ht) (EReal.coe_ne_top t)]

/-- The largest of finitely many real numbers is a real number. -/
theorem finite_fold_max {ι : Type} [Fintype ι] [Nonempty ι] {s : ι → EReal} (hs : ∀ i, Finite (s i)) :
    Finite (Finset.univ.fold max ⊥ s) := by
  obtain ⟨i, -, hi⟩ := Finset.exists_mem_eq_sup (Finset.univ : Finset ι) Finset.univ_nonempty s
  have : Finset.univ.fold max ⊥ s = s i := hi
  rw [this]
  exact hs i

/-- Quotients are unchanged when both sides are scaled by a positive real number. -/
theorem div_scaled (a : EReal) {d t : ℝ} (hd : 0 < d) (ht : 0 < t) : Ideal.div (a * (t : EReal)) ((d : EReal) * (t : EReal)) = Ideal.div a (d : EReal) := by
  have h : ((d : EReal) * (t : EReal)) ≠ 0 := by
    rw [← EReal.coe_mul]; exact_mod_cast (mul_pos hd ht).ne'
  have h' : (d : EReal) ≠ 0 := by exact_mod_cast hd.ne'
  unfold Ideal.div
  rw [if_neg h, if_neg h', ← EReal.coe_mul, ← EReal.coe_inv, ← EReal.coe_inv, mul_assoc, ← EReal.coe_mul]
  congr 2
  field_simp

/-- The mean weighted by the exponentials of real scores, with the largest score taken away first and a rescaled zero added, is
the plain one. -/
theorem mean_eq {ι : Type} [Fintype ι] [Nonempty ι] {s : ι → EReal} (hs : ∀ j, Finite (s j)) (v : ι → EReal) :
    Ideal.div
        (0 * Ideal.exp (⊥ - max ⊥ (Finset.univ.fold max ⊥ s)) + ∑ j, v j * Ideal.exp (s j - max ⊥ (Finset.univ.fold max ⊥ s)))
        (0 * Ideal.exp (⊥ - max ⊥ (Finset.univ.fold max ⊥ s)) + (0 + ∑ j, Ideal.exp (s j - max ⊥ (Finset.univ.fold max ⊥ s))))
      = Ideal.div (∑ j, Ideal.exp (s j) * v j) (∑ j, Ideal.exp (s j)) := by
  obtain ⟨μ, hμ⟩ := finite_fold_max hs
  choose r hr using hs
  rw [hμ, max_eq_right bot_le]
  have hw : ∀ j, Ideal.exp (s j - (μ : EReal)) = ((Real.exp (r j) : ℝ) : EReal) * ((Real.exp (-μ) : ℝ) : EReal) := fun j => by
    rw [hr, ← EReal.coe_sub, ← EReal.coe_mul, ← Real.exp_add, ← sub_eq_add_neg]; rfl
  have he : ∀ j, Ideal.exp (s j) = ((Real.exp (r j) : ℝ) : EReal) := fun j => by rw [hr]; rfl
  have hd : 0 < ∑ j, Real.exp (r j) := Finset.sum_pos (fun j _ => Real.exp_pos _) Finset.univ_nonempty
  simp only [hw, he, zero_mul, zero_add, ← mul_assoc, sum_mul_pos _ _ (Real.exp_pos (-μ)).le]
  rw [← coe_sum, div_scaled _ hd (Real.exp_pos _)]
  exact congrArg (Ideal.div · _) (Finset.sum_congr rfl fun j _ => mul_comm _ _)

/-- The sums over four chunks, a device's own first and then the others', are the sum over all keys. -/
theorem chunks_sum (f : Fin 512 → EReal) (c c1 c3 c2 : Fin 4) (h : ({c, c1, c3, c2} : Finset (Fin 4)) = Finset.univ) :
    (((∑ j : Fin 128, f ⟨c.val * 128 + j.val, by omega⟩) + ∑ j : Fin 128, f ⟨c1.val * 128 + j.val, by omega⟩)
        + ∑ j : Fin 128, f ⟨c3.val * 128 + j.val, by omega⟩) + ∑ j : Fin 128, f ⟨c2.val * 128 + j.val, by omega⟩
      = ∑ j, f j := by
  have hs : ∑ j, f j = ∑ d : Fin 4, ∑ j : Fin 128, f ⟨d.val * 128 + j.val, by omega⟩ := by
    rw [← (finProdFinEquiv (m := 4) (n := 128)).sum_comp f, Fintype.sum_prod_type]
    exact Finset.sum_congr rfl fun d _ => Finset.sum_congr rfl fun j _ => congrArg f (Fin.ext (by simp [finProdFinEquiv]; ring))
  have hc : ({c, c1, c3, c2} : Finset (Fin 4)).card = 4 := by rw [h]; rfl
  have hd : c ≠ c1 ∧ c ≠ c3 ∧ c ≠ c2 ∧ c1 ≠ c3 ∧ c1 ≠ c2 ∧ c3 ≠ c2 := by
    revert hc; revert c c1 c3 c2; decide
  obtain ⟨h1, h2, h3, h4, h5, h6⟩ := hd
  rw [hs, ← h, Finset.sum_insert (by simp [h1, h2, h3]), Finset.sum_insert (by simp [h4, h5]), Finset.sum_insert (by simp [h6]), Finset.sum_singleton]
  simp only [add_assoc]

end Cert.Attn

end
-- ==== Proof.Attended.lean ====
/-
# What a device's run computes, at an index

The kernel's result over the extended reals as a function of the activations, the weights and the four blocks of keys and
values that a device holds after the exchange.
-/
module

public import proofs.«01_k».proof.Proof.Body
public import proofs.«01_k».proof.Proof.Payloads
public import proofs.«01_k».proof.Proof.Softmax

@[expose] public section

set_option maxRecDepth 16384

noncomputable section

namespace Cert.Attn

open Cert.KernelIdeal Cert.KernelIdeal.Gen
open Idealize.ShloMosaic

/-- The weights of four chunks, summed in the order in which the chunks are taken. -/
def mass4 (q : FVec Ideal S512x64 .bf16) (k0 k1 k3 k2 : Tile) : FVec Ideal S512x1 .f32 :=
  addf (F := Ideal) (addf (F := Ideal) (addf (F := Ideal) (k0_pay16 (F := Ideal) q k0) (k0_pay16 (F := Ideal) q k1)) (k0_pay16 (F := Ideal) q k3)) (k0_pay16 (F := Ideal) q k2)

/-- The weighted values of four chunks, summed in that order. -/
def mix4 (q : FVec Ideal S512x64 .bf16) (k0 v0 k1 v1 k3 v3 k2 v2 : Tile) : FVec Ideal S512x64 .f32 :=
  addf (F := Ideal) (addf (F := Ideal) (addf (F := Ideal) (k0_pay17 (F := Ideal) q k0 v0) (k0_pay17 (F := Ideal) q k1 v1)) (k0_pay17 (F := Ideal) q k3 v3)) (k0_pay17 (F := Ideal) q k2 v2)

variable (x : FVec Ideal S2x128x512 .bf16) (wq wo : FVec Ideal S512x512 .bf16) (X0 X1 X2 X3 : Blk Ideal)

/-- The sum of the weights of a batch and a keys' head. -/
def massOf (b g : Fin 2) : FVec Ideal S512x1 .f32 :=
  mass4 (queries x wq b g) (tile X0 0 b g) (tile X1 0 b g) (tile X3 0 b g) (tile X2 0 b g)
/-- The sum of the weighted values of a batch and a keys' head. -/
def mixOf (b g : Fin 2) : FVec Ideal S512x64 .f32 :=
  mix4 (queries x wq b g) (tile X0 0 b g) (tile X0 1 b g) (tile X1 0 b g) (tile X1 1 b g) (tile X3 0 b g) (tile X3 1 b g) (tile X2 0 b g) (tile X2 1 b g)

/-- The run's result is the last step on the four sums of each batch and head. -/
theorem outOf_eq : outOf (F := Ideal) x wq wo X0 X1 X2 X3
    = k0_pay70 (F := Ideal) (massOf x wq X0 X1 X2 X3 0 0) (mixOf x wq X0 X1 X2 X3 0 0) (massOf x wq X0 X1 X2 X3 0 1) (mixOf x wq X0 X1 X2 X3 0 1)
        (massOf x wq X0 X1 X2 X3 1 0) (mixOf x wq X0 X1 X2 X3 1 0) (massOf x wq X0 X1 X2 X3 1 1) (mixOf x wq X0 X1 X2 X3 1 1) wo := rfl

/-- The run's result at an index: quotients of the sums, times the output weights. -/
theorem outOf_apply (b : Fin 2) (i : Fin 128) (n : Fin 512) :
    outOf (F := Ideal) x wq wo X0 X1 X2 X3 (ix3 b i n)
      = ∑ c : Fin 512, Ideal.div (mixOf x wq X0 X1 X2 X3 b ⟨c.val / 256, by omega⟩ (ix2 ⟨c.val / 64 % 4 * 128 + i.val, by omega⟩ ⟨c.val % 64, by omega⟩))
          (massOf x wq X0 X1 X2 X3 b ⟨c.val / 256, by omega⟩ (ix2 ⟨c.val / 64 % 4 * 128 + i.val, by omega⟩ 0)) * wo (ix2 c n) :=
  (congrFun (outOf_eq x wq wo X0 X1 X2 X3) _).trans
    (result_apply (fun b g => massOf x wq X0 X1 X2 X3 b g) (fun b g => mixOf x wq X0 X1 X2 X3 b g) wo b i n)

/-- A tile of keys at an index. -/
theorem tile_key (K V : S2x128x2x64.Idx → EReal) (b g : Fin 2) (j : Fin 128) (e : Fin 64) :
    tile (F := Ideal) (pack (F := Ideal) K V) 0 b g (ix6 0 0 0 0 j e) = K (ix4 b j g e) := by
  unfold tile pack
  rw [if_pos rfl]
  refine congrArg K (funext fun a => ?_)
  fin_cases a
  · exact Fin.ext (Nat.mod_eq_of_lt b.isLt)
  · rfl
  · exact Fin.ext (Nat.mod_eq_of_lt g.isLt)
  · rfl

/-- A tile of values at an index. -/
theorem tile_val (K V : S2x128x2x64.Idx → EReal) (b g : Fin 2) (j : Fin 128) (e : Fin 64) :
    tile (F := Ideal) (pack (F := Ideal) K V) 1 b g (ix6 0 0 0 0 j e) = V (ix4 b j g e) := by
  unfold tile pack
  rw [if_neg (show ¬ (1 % 2 = 0) by decide)]
  refine congrArg V (funext fun a => ?_)
  fin_cases a
  · exact Fin.ext (Nat.mod_eq_of_lt b.isLt)
  · rfl
  · exact Fin.ext (Nat.mod_eq_of_lt g.isLt)
  · rfl

section Whole

variable (K V : (⟨4, ![2, 512, 2, 64]⟩ : Shape).Idx → EReal)

/-- A query row's score on a key, the query scaled first. -/
def scoreK (b : Fin 2) (h : Fin 8) (i : Fin 128) (J : Fin 512) : EReal :=
  ∑ e : Fin 64, ((∑ d : Fin 512, x (ix3 b i d) * wq (ix2 d ⟨h.val * 64 + e.val, by omega⟩)) * eighth) * K (ix4 b J ⟨h.val / 4, by omega⟩ e)

/-- The keys of device `d`. -/
def cut (d : Fin 4) (f : (⟨4, ![2, 512, 2, 64]⟩ : Shape).Idx → EReal) : S2x128x2x64.Idx → EReal := Layout.block S2x128x2x64 ⟨4, ![2, 512, 2, 64]⟩ 1 4 d f

/-- Row `j` of device `d`'s part is row `d * 128 + j` of the whole. -/
theorem cut_ix (d : Fin 4) (f : (⟨4, ![2, 512, 2, 64]⟩ : Shape).Idx → EReal) (b : Fin 2) (j : Fin 128) (g : Fin 2) (e : Fin 64) :
    cut d f (ix4 b j g e) = f (ix4 b ⟨d.val * 128 + j.val, by omega⟩ g e) := by
  unfold cut
  rw [Layout.block_apply]
  refine congrArg f (funext fun a => Fin.ext ?_)
  rw [Layout.Tiles.idx_val]
  fin_cases a <;> rfl

/-- The block that holds device `d`'s keys and values. -/
abbrev held (d : Fin 4) : Blk Ideal := pack (F := Ideal) (cut d K) (cut d V)

/-- A query row's score on a key of a tile. -/
theorem score_tile (d : Fin 4) (b : Fin 2) (h : Fin 8) (i : Fin 128) (j : Fin 128) :
    (∑ e : Fin 64, queries x wq b ⟨h.val / 4, by omega⟩ (ix2 ⟨h.val % 4 * 128 + i.val, by omega⟩ e)
        * tile (F := Ideal) (held K V d) 0 b ((⟨h.val / 4, by omega⟩ : Fin 2) : ℕ) (ix6 0 0 0 0 j e))
      = scoreK x wq K b h i ⟨d.val * 128 + j.val, by omega⟩ := by
  refine Finset.sum_congr rfl fun e _ => ?_
  rw [queries_apply x wq b ⟨h.val / 4, by omega⟩ ⟨h.val % 4, by omega⟩ i e, tile_key (cut d K) (cut d V) b ⟨h.val / 4, by omega⟩ j e, cut_ix]
  have : (⟨h.val / 4 * 256 + h.val % 4 * 64 + e.val, by omega⟩ : Fin 512) = ⟨h.val * 64 + e.val, by omega⟩ := Fin.ext (by show h.val / 4 * 256 + h.val % 4 * 64 + e.val = h.val * 64 + e.val; omega)
  rw [this]

variable (c c1 c2 c3 : Fin 4)

/-- The weights' sum is over every key, whichever device's chunk is taken first. -/
theorem massOf_apply (hc : ({c, c1, c3, c2} : Finset (Fin 4)) = Finset.univ) (b : Fin 2) (h : Fin 8) (i : Fin 128) :
    massOf x wq (held K V c) (held K V c1) (held K V c2) (held K V c3) b ⟨h.val / 4, by omega⟩ (ix2 ⟨h.val % 4 * 128 + i.val, by omega⟩ 0)
      = ∑ J : Fin 512, Ideal.exp (scoreK x wq K b h i J) := by
  have one : ∀ d : Fin 4, k0_pay16 (F := Ideal) (queries x wq b ⟨h.val / 4, by omega⟩) (tile (F := Ideal) (held K V d) 0 b ((⟨h.val / 4, by omega⟩ : Fin 2) : ℕ)) (ix2 ⟨h.val % 4 * 128 + i.val, by omega⟩ 0)
      = ∑ j : Fin 128, Ideal.exp (scoreK x wq K b h i ⟨d.val * 128 + j.val, by omega⟩) := fun d =>
    (mass_apply _ _ _).trans (Finset.sum_congr rfl fun j _ => congrArg Ideal.exp (score_tile x wq K V d b h i j))
  refine Eq.trans ?_ (chunks_sum (fun J => Ideal.exp (scoreK x wq K b h i J)) c c1 c3 c2 hc)
  rw [← one c, ← one c1, ← one c2, ← one c3]
  rfl

/-- The weighted values' sum is over every key, whichever device's chunk is taken first. -/
theorem mixOf_apply (hc : ({c, c1, c3, c2} : Finset (Fin 4)) = Finset.univ) (b : Fin 2) (h : Fin 8) (i : Fin 128) (e : Fin 64) :
    mixOf x wq (held K V c) (held K V c1) (held K V c2) (held K V c3) b ⟨h.val / 4, by omega⟩ (ix2 ⟨h.val % 4 * 128 + i.val, by omega⟩ e)
      = ∑ J : Fin 512, Ideal.exp (scoreK x wq K b h i J) * V (ix4 b J ⟨h.val / 4, by omega⟩ e) := by
  have one : ∀ d : Fin 4, k0_pay17 (F := Ideal) (queries x wq b ⟨h.val / 4, by omega⟩) (tile (F := Ideal) (held K V d) 0 b ((⟨h.val / 4, by omega⟩ : Fin 2) : ℕ))
        (tile (F := Ideal) (held K V d) 1 b ((⟨h.val / 4, by omega⟩ : Fin 2) : ℕ)) (ix2 ⟨h.val % 4 * 128 + i.val, by omega⟩ e)
      = ∑ j : Fin 128, Ideal.exp (scoreK x wq K b h i ⟨d.val * 128 + j.val, by omega⟩) * V (ix4 b ⟨d.val * 128 + j.val, by omega⟩ ⟨h.val / 4, by omega⟩ e) := fun d =>
    (mix_apply _ _ _ _ _).trans (Finset.sum_congr rfl fun j _ => by
      rw [score_tile x wq K V d b h i j, tile_val (cut d K) (cut d V) b ⟨h.val / 4, by omega⟩ j e, cut_ix])
  refine Eq.trans ?_ (chunks_sum (fun J => Ideal.exp (scoreK x wq K b h i J) * V (ix4 b J ⟨h.val / 4, by omega⟩ e)) c c1 c3 c2 hc)
  rw [← one c, ← one c1, ← one c2, ← one c3]
  rfl

/-- What a device computes at an index, from the whole arrays. -/
theorem outOf_whole (hc : ({c, c1, c3, c2} : Finset (Fin 4)) = Finset.univ) (b : Fin 2) (i : Fin 128) (n : Fin 512) :
    outOf (F := Ideal) x wq wo (held K V c) (held K V c1) (held K V c2) (held K V c3) (ix3 b i n)
      = ∑ k : Fin 512, Ideal.div
          (∑ J : Fin 512, Ideal.exp (scoreK x wq K b ⟨k.val / 64, by omega⟩ i J) * V (ix4 b J ⟨k.val / 64 / 4, by omega⟩ ⟨k.val % 64, by omega⟩))
          (∑ J : Fin 512, Ideal.exp (scoreK x wq K b ⟨k.val / 64, by omega⟩ i J)) * wo (ix2 k n) := by
  rw [outOf_apply]
  refine Finset.sum_congr rfl fun k _ => congrArg (· * _) ?_
  rw [← massOf_apply x wq K V c c1 c2 c3 hc b ⟨k.val / 64, by omega⟩ i,
    ← mixOf_apply x wq K V c c1 c2 c3 hc b ⟨k.val / 64, by omega⟩ i ⟨k.val % 64, by omega⟩]
  have : (⟨k.val / 256, by omega⟩ : Fin 2) = ⟨k.val / 64 / 4, by omega⟩ := Fin.ext (by show k.val / 256 = k.val / 64 / 4; omega)
  rw [this]

end Whole

end Cert.Attn

end
-- ==== Proof.Reference.lean ====
/-
# The reference at an index

The reference's composed term in named stages, and each stage read at an index over the extended reals.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Attn.Ref

open Cert.ReferenceIdeal Cert.ReferenceIdeal.Gen Cert.ReferenceIdeal.Value
open Idealize.ShloMosaic

/-- The scaled scores of every query row and key, per batch and head. -/
def scores (x : FVec Ideal S2x128x512 .bf16) (wq : FVec Ideal S512x512 .bf16) (K : FVec Ideal S2x512x2x64 .bf16) : FVec Ideal S2x8x128x512 .f32 :=
  mulf (extf .f32 (truncf .bf16 (Host.dotGeneral dot_S2x128x8x64_S2x512x8x64_S2x8x128x512_3_3_1_1_02_02 none (extf .f32 (shapeCast S2x128x8x64 (truncf .bf16 (Host.dotGeneral dot_S2x128x512_S512x512_S2x128x512_2_0_01_1_n_n none (extf .f32 x bitsLt_bf16_f32) (extf .f32 wq bitsLt_bf16_f32)) bitsLt_bf16_f32) shapeCasts_S2x128x512_S2x128x8x64) bitsLt_bf16_f32) (extf .f32 (shapeCast S2x512x8x64 (broadcastInDim S2x512x2x4x64 ![0, 1, 2, 4] bcast_S2x512x2x64_S2x512x2x4x64_0_1_2_4 K) shapeCasts_S2x512x2x4x64_S2x512x8x64) bitsLt_bf16_f32)) bitsLt_bf16_f32) bitsLt_bf16_f32) (broadcastInDim S2x8x128x512 ![] bcast_S_S2x8x128x512 (constant S_ .f32 0x3E000000#32))

/-- The largest score of a row. -/
def top (s : FVec Ideal S2x8x128x512 .f32) : FVec Ideal S2x8x128x1 .f32 :=
  maximumf (broadcastInDim S2x8x128x1 ![] bcast_S_S2x8x128x1 (constant S_ .f32 0xFF800000#32)) (broadcastInDim S2x8x128x1 ![0, 1, 2] bcast_S2x8x128_S2x8x128x1_0_1_2 (Host.reduce FloatOps.maximumf s (constant S_ .f32 0xFF800000#32) reducesTo_S2x8x128x512_S2x8x128_d3 h_S_))

/-- The factor by which what came before is rescaled. -/
def old (s : FVec Ideal S2x8x128x512 .f32) : FVec Ideal S2x8x128x1 .f32 :=
  Host.exp (subf (broadcastInDim S2x8x128x1 ![] bcast_S_S2x8x128x1 (constant S_ .f32 0xFF800000#32)) (top s))

/-- The weights. -/
def wts (s : FVec Ideal S2x8x128x512 .f32) : FVec Ideal S2x8x128x512 .f32 :=
  Host.exp (subf s (broadcastInDim S2x8x128x512 ![0, 1, 2, 3] bcast_S2x8x128x1_S2x8x128x512_0_1_2_3 (top s)))

/-- The sum of a row's weights. -/
def mass (s : FVec Ideal S2x8x128x512 .f32) : FVec Ideal S2x8x128x1 .f32 :=
  addf (mulf (broadcastInDim S2x8x128x1 ![] bcast_S_S2x8x128x1 (constant S_ .f32 0x00000000#32)) (old s)) (broadcastInDim S2x8x128x1 ![0, 1, 2] bcast_S2x8x128_S2x8x128x1_0_1_2 (Host.reduceAdd (wts s) (constant S_ .f32 0x00000000#32) reducesTo_S2x8x128x512_S2x8x128_d3 h_S_))

/-- The weighted sum of the values. -/
def mix (s : FVec Ideal S2x8x128x512 .f32) (V : FVec Ideal S2x512x2x64 .bf16) : FVec Ideal S2x128x8x64 .f32 :=
  addf (mulf (broadcastInDim S2x128x8x64 ![] bcast_S_S2x128x8x64 (constant S_ .f32 0x00000000#32)) (broadcastInDim S2x128x8x64 ![0, 1, 2, 3] bcast_S2x128x8x1_S2x128x8x64_0_1_2_3 (transpose S2x128x8x1 [0, 2, 1, 3] (old s) transposes_S2x8x128x1_S2x128x8x1_0_2_1_3))) (transpose S2x128x8x64 [0, 3, 1, 2] (Host.dotGeneral dot_S2x512x8x64_S2x8x128x512_S2x8x64x128_1_3_3_2_02_01 none (extf .f32 (shapeCast S2x512x8x64 (broadcastInDim S2x512x2x4x64 ![0, 1, 2, 4] bcast_S2x512x2x64_S2x512x2x4x64_0_1_2_4 V) shapeCasts_S2x512x2x4x64_S2x512x8x64) bitsLt_bf16_f32) (wts s)) transposes_S2x8x64x128_S2x128x8x64_0_3_1_2)

/-- The result from the weighted sums and the weights' sums. -/
def result (a : FVec Ideal S2x128x8x64 .f32) (l : FVec Ideal S2x8x128x1 .f32) (wo : FVec Ideal S512x512 .bf16) : FVec Ideal S2x128x512 .f32 :=
  Host.dotGeneral dot_S2x128x512_S512x512_S2x128x512_2_0_01_1_n_n none (shapeCast S2x128x512 (Host.divf a (broadcastInDim S2x128x8x64 ![0, 1, 2, 3] bcast_S2x128x8x1_S2x128x8x64_0_1_2_3 (transpose S2x128x8x1 [0, 2, 1, 3] l transposes_S2x8x128x1_S2x128x8x1_0_2_1_3))) shapeCasts_S2x128x8x64_S2x128x512) (extf .f32 wo bitsLt_bf16_f32)

/-- The composed term is these stages, one after the other. -/
theorem res_eq (m : (ℓ : Loc nD τ sig) → Buf (Elt Ideal) ℓ) (c : Dev nD) :
    res_out0 (F := Ideal) m c = result
      (mix (scores (m ((c.tc : Thread nD τ).loc main_arg0)) (m ((c.tc : Thread nD τ).loc main_arg1)) (m ((c.tc : Thread nD τ).loc main_arg3))) (m ((c.tc : Thread nD τ).loc main_arg4)))
      (mass (scores (m ((c.tc : Thread nD τ).loc main_arg0)) (m ((c.tc : Thread nD τ).loc main_arg1)) (m ((c.tc : Thread nD τ).loc main_arg3))))
      (m ((c.tc : Thread nD τ).loc main_arg2)) := rfl

/-- A score at an index. -/
theorem scores_apply (x : FVec Ideal S2x128x512 .bf16) (wq : FVec Ideal S512x512 .bf16) (K : FVec Ideal S2x512x2x64 .bf16) (b : Fin 2) (h : Fin 8) (i : Fin 128) (j : Fin 512) :
    scores x wq K (ix4 b h i j) = (∑ e : Fin 64, (∑ d : Fin 512, x (ix3 b i d) * wq (ix2 d ⟨h.val * 64 + e.val, by omega⟩)) * K (ix4 b j ⟨h.val / 4, by omega⟩ e))
      * Ideal.ofBits .f32 0x3E000000#32 := by
  pointwise [scores]

/-- The largest score at an index. -/
theorem top_apply (s : FVec Ideal S2x8x128x512 .f32) (b : Fin 2) (h : Fin 8) (i : Fin 128) :
    top s (ix4 b h i 0) = max (Ideal.ofBits .f32 0xFF800000#32) (Finset.univ.fold max (Ideal.ofBits .f32 0xFF800000#32) fun j : Fin 512 => s (ix4 b h i j)) := by
  pointwise [top]

/-- The rescaling factor at an index. -/
theorem old_apply (s : FVec Ideal S2x8x128x512 .f32) (b : Fin 2) (h : Fin 8) (i : Fin 128) :
    old s (ix4 b h i 0) = Ideal.exp (Ideal.ofBits .f32 0xFF800000#32 - top s (ix4 b h i 0)) := by
  pointwise [old]

/-- A weight at an index. -/
theorem wts_apply (s : FVec Ideal S2x8x128x512 .f32) (b : Fin 2) (h : Fin 8) (i : Fin 128) (j : Fin 512) :
    wts s (ix4 b h i j) = Ideal.exp (s (ix4 b h i j) - top s (ix4 b h i 0)) := by
  pointwise [wts]

/-- The weights' sum at an index. -/
theorem mass_apply (s : FVec Ideal S2x8x128x512 .f32) (b : Fin 2) (h : Fin 8) (i : Fin 128) :
    mass s (ix4 b h i 0) = 0 * old s (ix4 b h i 0) + (0 + ∑ j : Fin 512, wts s (ix4 b h i j)) := by
  pointwise [mass]

/-- The weighted sum at an index. -/
theorem mix_apply (s : FVec Ideal S2x8x128x512 .f32) (V : FVec Ideal S2x512x2x64 .bf16) (b : Fin 2) (i : Fin 128) (h : Fin 8) (e : Fin 64) :
    mix s V (ix4 b i h e) = 0 * old s (ix4 b h i 0) + ∑ j : Fin 512, V (ix4 b j ⟨h.val / 4, by omega⟩ e) * wts s (ix4 b h i j) := by
  pointwise [mix]

/-- The result at an index. -/
theorem result_apply (a : FVec Ideal S2x128x8x64 .f32) (l : FVec Ideal S2x8x128x1 .f32) (wo : FVec Ideal S512x512 .bf16) (b : Fin 2) (i : Fin 128) (n : Fin 512) :
    result a l wo (ix3 b i n) = ∑ c : Fin 512, Ideal.div (a (ix4 b i ⟨c.val / 64, by omega⟩ ⟨c.val % 64, by omega⟩)) (l (ix4 b ⟨c.val / 64, by omega⟩ i 0)) * wo (ix2 c n) := by
  pointwise [result]

end Cert.Attn.Ref

end
-- ==== Proof.Agreement.lean ====
/-
# The kernel and the reference agree

On finite activations, query weights and keys, every device of the kernel ends with the array that the reference computes.
-/
module

public import proofs.«01_k».proof.Proof.Frames
public import proofs.«01_k».proof.Proof.Attended
public import proofs.«01_k».proof.Proof.Reference

@[expose] public section

set_option maxRecDepth 16384

noncomputable section

namespace Cert.Attn

open Idealize.ShloMosaic

/-- The activations, the query weights and the keys as one device holds them are finite. -/
theorem finite_of_pre (x : FVec Ideal ⟨3, ![2, 128, 512]⟩ .bf16) (wq wo : FVec Ideal ⟨2, ![512, 512]⟩ .bf16) (K V : FVec Ideal ⟨4, ![2, 128, 2, 64]⟩ .bf16)
    [Cert.Pre_finite_scores_KernelIdeal.Facts]
    (h1 : (Cert.Pre_finite_scores_KernelIdeal.fn (F := Ideal) x wq wo K V).1 = fun _ => 1#1)
    (h2 : (Cert.Pre_finite_scores_KernelIdeal.fn (F := Ideal) x wq wo K V).2.1 = fun _ => 1#1)
    (h3 : (Cert.Pre_finite_scores_KernelIdeal.fn (F := Ideal) x wq wo K V).2.2.1 = fun _ => 1#1)
    (h4 : (Cert.Pre_finite_scores_KernelIdeal.fn (F := Ideal) x wq wo K V).2.2.2.1 = fun _ => 1#1)
    (h5 : (Cert.Pre_finite_scores_KernelIdeal.fn (F := Ideal) x wq wo K V).2.2.2.2.1 = fun _ => 1#1)
    (h6 : (Cert.Pre_finite_scores_KernelIdeal.fn (F := Ideal) x wq wo K V).2.2.2.2.2 = fun _ => 1#1) :
    (∀ i, Finite (x i)) ∧ (∀ i, Finite (wq i)) ∧ ∀ i, Finite (K i) := by
  refine ⟨fun i => ?_, fun i => ?_, fun i => ?_⟩
  · have a := (Ideal.cmp_ogt_eq_one _ _).mp (congrFun h1 i)
    have b := (Ideal.cmp_olt_eq_one _ _).mp (congrFun h2 i)
    exact finite_of_lt (ofBits_bf16_bot ▸ a) (ofBits_bf16_top ▸ b)
  · have a := (Ideal.cmp_ogt_eq_one _ _).mp (congrFun h3 i)
    have b := (Ideal.cmp_olt_eq_one _ _).mp (congrFun h4 i)
    exact finite_of_lt (ofBits_bf16_bot ▸ a) (ofBits_bf16_top ▸ b)
  · have a := (Ideal.cmp_ogt_eq_one _ _).mp (congrFun h5 i)
    have b := (Ideal.cmp_olt_eq_one _ _).mp (congrFun h6 i)
    exact finite_of_lt (ofBits_bf16_bot ▸ a) (ofBits_bf16_top ▸ b)

section Whole

variable (x : FVec Ideal ⟨3, ![2, 128, 512]⟩ .bf16) (wq wo : FVec Ideal ⟨2, ![512, 512]⟩ .bf16) (K V : FVec Ideal ⟨4, ![2, 512, 2, 64]⟩ .bf16)

/-- Scaling the query first or the score last is the same on finite numbers. -/
theorem score_eq (hx : ∀ i, Finite (x i)) (hq : ∀ i, Finite (wq i)) (hK : ∀ i, Finite (K i)) (b : Fin 2) (h : Fin 8) (i : Fin 128) (J : Fin 512) :
    scoreK x wq K b h i J = Ref.scores x wq K (ix4 b h i J) :=
  (sum_scaled (fun _ => Finite.sum _ fun _ => (hx _).mul (hq _)) (fun _ => hK _) ⟨_, ofBits_eighth⟩).trans (Ref.scores_apply x wq K b h i J).symm

/-- On finite numbers a score is finite. -/
theorem score_finite (hx : ∀ i, Finite (x i)) (hq : ∀ i, Finite (wq i)) (hK : ∀ i, Finite (K i)) (b : Fin 2) (h : Fin 8) (i : Fin 128) (J : Fin 512) :
    Finite (scoreK x wq K b h i J) :=
  Finite.sum _ fun _ => ((Finite.sum _ fun _ => (hx _).mul (hq _)).mul ⟨_, ofBits_eighth⟩).mul (hK _)

/-- What a device computes is what the reference computes. -/
theorem out_eq (hx : ∀ i, Finite (x i)) (hq : ∀ i, Finite (wq i)) (hK : ∀ i, Finite (K i)) (c c1 c2 c3 : Fin 4)
    (hc : ({c, c1, c3, c2} : Finset (Fin 4)) = Finset.univ) :
    outOf (F := Ideal) x wq wo (held K V c) (held K V c1) (held K V c2) (held K V c3)
      = Ref.result (Ref.mix (Ref.scores x wq K) V) (Ref.mass (Ref.scores x wq K)) wo := by
  funext j
  idx_vars j
  refine (outOf_whole x wq wo K V c c1 c2 c3 hc j0 j1 j2).trans (Eq.trans ?_ (Ref.result_apply _ _ wo j0 j1 j2).symm)
  refine Finset.sum_congr rfl fun k _ => congrArg (· * _) ?_
  rw [Ref.mix_apply, Ref.mass_apply, ← mean_eq (fun J => score_finite x wq K hx hq hK j0 ⟨k.val / 64, by omega⟩ j1 J)]
  simp only [Ref.wts_apply, Ref.old_apply, Ref.top_apply, ofBits_bot, score_eq x wq K hx hq hK]

end Whole

end Cert.Attn

namespace Cert.Proof

open Idealize.ShloMosaic
open Cert.Attn

/-- The shape relations that the precondition's text takes, at one device's arguments. -/
instance preKernelFacts : Cert.Pre_finite_scores_KernelIdeal.Facts where
  bcast_S_S2x128x512 := by decide
  bcast_S_S512x512 := by decide
  bcast_S_S2x128x2x64 := by decide

/-- The same at the whole arrays. -/
instance preReferenceFacts : Cert.Pre_finite_scores_ReferenceIdeal.Facts where
  bcast_S_S2x128x512 := by decide
  bcast_S_S512x512 := by decide
  bcast_S_S2x512x2x64 := by decide

/-- Whatever holds from any memory holds from the finite ones. -/
theorem frame_kernelIdeal_pre : Cert.quiescent_KernelIdeal_pre_finite_scores_KernelIdeal := fun m ρ _ => frame_kernelIdeal m ρ trivial
/-- Likewise for the reference. -/
theorem frame_reference_pre : Cert.quiescent_ReferenceIdeal_pre_finite_scores_ReferenceIdeal := fun m ρ _ => frame_reference m ρ trivial

/-- A key of the whole array is a key of the device that holds it. -/
theorem whole_finite (K : (⟨4, ![2, 512, 2, 64]⟩ : Shape).Idx → EReal) (h : ∀ (d : Fin 4) i, Finite (cut d K i)) : ∀ i, Finite (K i) := by
  intro i
  idx_vars i
  have := h ⟨i1.val / 128, by omega⟩ (ix4 i0 ⟨i1.val % 128, by omega⟩ i2 i3)
  rw [cut_ix] at this
  have hJ : (⟨i1.val / 128 * 128 + i1.val % 128, by omega⟩ : Fin 512) = i1 := Fin.ext (by show i1.val / 128 * 128 + i1.val % 128 = i1.val; omega)
  rwa [hJ] at this

/-- Both programs end with the same result on every device. -/
theorem algebraic : Cert.algebraic_KernelIdeal_ReferenceIdeal_pre_finite_scores_KernelIdeal := by
  intro m g m' g' hpre hin
  have hfin := fun c => finite_of_pre _ _ _ _ _ (hpre c).1 (hpre c).2.1 (hpre c).2.2.1 (hpre c).2.2.2.1 (hpre c).2.2.2.2.1 (hpre c).2.2.2.2.2
  have hx := (hin 0).1 ▸ (hfin 0).1
  have hq := (hin 0).2.1 ▸ (hfin 0).2.1
  have hK := whole_finite _ fun d => (hin d).2.2.2.1 ▸ (hfin d).2.2
  refine ⟨Cert.ReferenceIdeal.Value.res_out0 (F := Ideal) m' 0, ?_, ?_⟩
  · refine (θ_run _ _ _).mono (fun r h c => ⟨(h.1 c).1.trans ?_, (h.1 c).2⟩) (run_result (F := Ideal) m g)
    have hb : ∀ d, blkOf m d = held (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) d := fun d => by
      unfold blkOf
      rw [keyAt_eq, valAt_eq]
      exact congrArg₂ (pack (F := Ideal)) (hin d).2.2.2.1 (hin d).2.2.2.2
    unfold outAt
    rw [xAt_eq, wqAt_eq, woAt_eq, hb, hb, hb, hb, (hin c).1, (hin c).2.1, (hin c).2.2.1, Ref.res_eq]
    exact out_eq _ _ _ _ _ hx hq hK c (dn 0 c) (dn 1 c) (dn 2 c) (by revert c; decide)
  · exact (θ_run _ _ _).mono (fun r h => h 0) (Cert.ReferenceIdeal.Value.run (F := Ideal) m' g')

end Cert.Proof

end
-- ==== Proof.lean ====
/-
# The claim

The runs of the two kernels and of the reference, and the equality of their results, put together as the certificate's claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Agreement

@[expose] public section

noncomputable section

namespace Cert.Proof

open Idealize.ShloMosaic Idealize.SL.Sem

/-- The claim. -/
theorem claim : Cert.Claim :=
  ⟨Cert.Kernel.Gen.facts, Cert.KernelIdeal.Gen.facts, Cert.ReferenceIdeal.Gen.facts, preKernelFacts, preReferenceFacts,
    frame_kernel, frame_kernelIdeal, frame_kernelIdeal_pre, frame_reference, frame_reference_pre, trivial, algebraic⟩

end Cert.Proof

end
